-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_mem [hPre_finite_mem : Cert.Pre_finite_mem.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_mem.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_mem [hPre_finite_mem : Cert.Pre_finite_mem.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_mem.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_mem [hKernel9Ideal : Cert.Kernel9Ideal.Facts] [hPre_finite_mem : Cert.Pre_finite_mem.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_mem m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_mem [hReference9Ideal : Cert.Reference9Ideal.Facts] [hPre_finite_mem : Cert.Pre_finite_mem.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_mem m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite_mem [hKernel9Ideal : Cert.Kernel9Ideal.Facts] [hReference9Ideal : Cert.Reference9Ideal.Facts] [hPre_finite_mem : Cert.Pre_finite_mem.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_mem m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_mem : Cert.Pre_finite_mem.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_mem (hKernel9Ideal := hKernel9Ideal) (hPre_finite_mem := hPre_finite_mem)
    ∧ quiescent_Reference9Ideal (hReference9Ideal := hReference9Ideal)
    ∧ quiescent_Reference9Ideal_pre_finite_mem (hReference9Ideal := hReference9Ideal) (hPre_finite_mem := hPre_finite_mem)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_mem (hKernel9Ideal := hKernel9Ideal) (hReference9Ideal := hReference9Ideal) (hPre_finite_mem := hPre_finite_mem)
-- ==== Pre_finite.lean ====
abbrev S16384x3072 : Shape := ⟨2, ![16384, 3072]⟩
abbrev S16384x6144 : Shape := ⟨2, ![16384, 6144]⟩
abbrev S32x24 : Shape := ⟨2, ![32, 24]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  slices_S16384x6144_S16384x3072_0_0 : S16384x6144.Slices ![0, 0] S16384x3072
  bcast_S_S32x24 : S_.BroadcastsInDim S32x24 (![] : Fin 0 → Fin S32x24.rank)
  reducesTo_S32x24_S_d0_1 : S32x24.ReducesTo [0, 1] S_

variable [Facts]

def fn {F : FTy → Type} [FloatOps F] (main_arg0 : FVec F S16384x3072 .f32) (main_arg1 : FVec F S16384x6144 .f32) (main_arg2 : FVec F S32x24 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S16384x3072 .f32 := (extractStridedSlice S16384x3072 ![0, 0] · slices_S16384x6144_S16384x3072_0_0) main_arg1
  let main_v5 : FVec F S16384x3072 .f32 := Host.absf main_v4
  let main_cst_0 : FVec F S_ .f32 := constant S_ .f32 0x7F800000#32
  let main_v6 : FVec F S16384x3072 .f32 := broadcastInDim S16384x3072 ![] bcast_S_S16384x3072 main_cst_0
  let main_v7 : IVec S16384x3072 1 := cmpf .olt main_v5 main_v6
  let main_c_1 : IVec S_ 1 := constantI S_ 1 1#1
  let main_v8 : IVec S_ 1 := (fun x v => Host.reduce IntOp.andi x v reducesTo_S16384x3072_S_d0_1 h_S_) main_v7 main_c_1
  let main_v9 : IVec S_ 1 := andi main_v3 main_v8
  let main_v10 : FVec F S32x24 .f32 := Host.absf main_arg2
  let main_cst_2 : FVec F S_ .f32 := constant S_ .f32 0x7F800000#32
  let main_v11 : FVec F S32x24 .f32 := broadcastInDim S32x24 ![] bcast_S_S32x24 main_cst_2
  let main_v12 : IVec S32x24 1 := cmpf .olt main_v10 main_v11
  let main_c_3 : IVec S_ 1 := constantI S_ 1 1#1
  let main_v13 : IVec S_ 1 := (fun x v => Host.reduce IntOp.andi x v reducesTo_S32x24_S_d0_1 h_S_) main_v12 main_c_3
  let main_v14 : IVec S_ 1 := andi main_v9 main_v13
  main_v14
-- ==== Pre_finite_mem.lean ====
abbrev S16384x4096 : Shape := ⟨2, ![16384, 4096]⟩
abbrev S4096x4096 : Shape := ⟨2, ![4096, 4096]⟩
abbrev S2048x2048 : Shape := ⟨2, ![2048, 2048]⟩
abbrev S_ : Shape := ⟨0, ![]⟩
abbrev S4096x1024 : Shape := ⟨2, ![4096, 1024]⟩
abbrev S2048x1024 : Shape := ⟨2, ![2048, 1024]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  slices_S4096x4096_S4096x1024_0_3072 : S4096x4096.Slices ![0, 3072] S4096x1024
  bcast_S_S4096x1024 : S_.BroadcastsInDim S4096x1024 (![] : Fin 0 → Fin S4096x1024.rank)
  reducesTo_S4096x1024_S_d0_1 : S4096x1024.ReducesTo [0, 1] S_
  slices_S2048x2048_S2048x1024_0_0 : S2048x2048.Slices ![0, 0] S2048x1024
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S16384x4096 .bf16) (main_arg1 : FVec F S4096x4096 .f32) (main_arg2 : FVec F S2048x2048 .bf16) : IVec S_ 1 :=
  let main_v0 : FVec F S16384x4096 .f32 := (extf .f32 · bitsLt_bf16_f32) main_arg0
  let main_v1 : FVec F S2048x2048 .f32 := (extf .f32 · bitsLt_bf16_f32) main_arg2
  let main_v2 : FVec F S16384x4096 .f32 := Host.absf main_v0
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_c : IVec S_ 1 := constantI S_ 1 1#1
  let main_v5 : IVec S_ 1 := (fun x v => Host.reduce IntOp.andi x v reducesTo_S16384x4096_S_d0_1 h_S_) main_v4 main_c
  let main_v6 : FVec F S4096x1024 .f32 := (extractStridedSlice S4096x1024 ![0, 3072] · slices_S4096x4096_S4096x1024_0_3072) main_arg1
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : IVec S_ 1 := andi main_v5 main_v10
  let main_v12 : FVec F S2048x1024 .f32 := (extractStridedSlice S2048x1024 ![0, 0] · slices_S2048x2048_S2048x1024_0_0) main_v1
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  let main_c_3 : IVec S_ 1 := constantI S_ 1 1#1
  let main_v16 : IVec S_ 1 := (fun x v => Host.reduce IntOp.andi x v reducesTo_S2048x1024_S_d0_1 h_S_) main_v15 main_c_3
  let main_v17 : IVec S_ 1 := andi main_v11 main_v16
  main_v17
-- ==== Kernel.lean ====
abbrev S16384x3072 : Shape := ⟨2, ![16384, 3072]⟩
abbrev S16384x6144 : Shape := ⟨2, ![16384, 6144]⟩
abbrev S32x24 : Shape := ⟨2, ![32, 24]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S16384x1024 : Shape := ⟨2, ![16384, 1024]⟩
abbrev S2048x128 : Shape := ⟨2, ![2048, 128]⟩
abbrev S1x1 : Shape := ⟨2, ![1, 1]⟩
abbrev S128x128 : Shape := ⟨2, ![128, 128]⟩
abbrev S256x128 : Shape := ⟨2, ![256, 128]⟩
abbrev S512x128 : Shape := ⟨2, ![512, 128]⟩

abbrev nBuf : Space → Nat
  | .hbm => 130
  | .vmem => 27
  | .smem => 1
  | _ => 0

abbrev hbmTy0_0 (i : Nat) : BufTy := match i % 128 with
  | 0 => ⟨S16384x3072, .f32⟩
  | 1 => ⟨S16384x6144, .f32⟩
  | 2 => ⟨S32x24, .f32⟩
  | 3 => ⟨S128, .i32⟩
  | 4 => ⟨S128x1, .i32⟩
  | 5 => ⟨S256, .i32⟩
  | 6 => ⟨S1x256, .i32⟩
  | 7 => ⟨S_, .i32⟩
  | 8 => ⟨S128x1, .i32⟩
  | 9 => ⟨S128x1, .i32⟩
  | 10 => ⟨S128x256, .i32⟩
  | 11 => ⟨S128x256, .i32⟩
  | 12 => ⟨S128x256, .i32⟩
  | 13 => ⟨S_, .i32⟩
  | 14 => ⟨S128x256, .i32⟩
  | 15 => ⟨S128x256, .i1⟩
  | 16 => ⟨S_, .i32⟩
  | 17 => ⟨S128x256, .i32⟩
  | 18 => ⟨S128x256, .i1⟩
  | 19 => ⟨S128x256, .i1⟩
  | 20 => ⟨S_, .i32⟩
  | 21 => ⟨S128x256, .i32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S128x256, .f32⟩
  | 30 => ⟨S_, .f32⟩
  | 31 => ⟨S128x256, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S128x256, .i32⟩
  | 41 => ⟨S_, .i32⟩
  | 42 => ⟨S128x256, .i32⟩
  | 43 => ⟨S128x256, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S128x256, .i32⟩
  | 51 => ⟨S_, .i32⟩
  | 52 => ⟨S_, .i32⟩
  | 53 => ⟨S128x256, .i32⟩
  | 54 => ⟨S128x256, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i32⟩
  | 64 => ⟨S128x256, .f32⟩
  | 65 => ⟨S_, .f32⟩
  | 66 => ⟨S128x256, .f32⟩
  | 67 => ⟨S128x256, .f32⟩
  | 68 => ⟨S128x256, .f32⟩
  | 69 => ⟨S_, .f32⟩
  | 70 => ⟨S128x256, .f32⟩
  | 71 => ⟨S128x256, .f32⟩
  | 72 => ⟨S_, .f32⟩
  | 73 => ⟨S128x256, .f32⟩
  | 74 => ⟨S128x256, .f32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i32⟩
  | 82 => ⟨S_, .i32⟩
  | 83 => ⟨S128x256, .i32⟩
  | 84 => ⟨S128x256, .i1⟩
  | 85 => ⟨S128x256, .i32⟩
  | 86 => ⟨S_, .i32⟩
  | 87 => ⟨S_, .i32⟩
  | 88 => ⟨S128x256, .i32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S_, .i32⟩
  | 97 => ⟨S128x256, .i32⟩
  | 98 => ⟨S128x256, .i32⟩
  | 99 => ⟨S128x256, .f32⟩
  | 100 => ⟨S_, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S_, .f32⟩
  | 108 => ⟨S128x256, .f32⟩
  | 109 => ⟨S128x256, .f32⟩
  | 110 => ⟨S128x256, .i32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i32⟩
  | 117 => ⟨S_, .i32⟩
  | 118 => ⟨S128x256, .i32⟩
  | 119 => ⟨S128x256, .i1⟩
  | 120 => ⟨S128x256, .i32⟩
  | 121 => ⟨S_, .i32⟩
  | 122 => ⟨S_, .i32⟩
  | 123 => ⟨S128x256, .i32⟩
  | 124 => ⟨S128x256, .i32⟩
  | 125 => ⟨S1x128x256, .i32⟩
  | 126 => ⟨S1x128x256, .i32⟩
  | 127 => ⟨S1x128x256, .i32⟩
  | _ => ⟨S16384x3072, .f32⟩

abbrev hbmTy0_1 (i : Nat) : BufTy := match i % 128 with
  | 0 => ⟨S3x128x256, .i32⟩
  | 1 => ⟨S16384x1024, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S3x128x256, .i32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .bf16⟩
  | .local _ .vmem, ⟨20, _⟩ => ⟨S2048x128, .bf16⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .smem, ⟨0, _⟩ => ⟨S32x24, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_call1_v0 : Ref sig .tc := ⟨.hbm, 52, rfl⟩
abbrev main_call1_v1 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_c_12 : Ref sig .tc := ⟨.hbm, 58, rfl⟩
abbrev main_v39 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_17 : Ref sig .tc := ⟨.hbm, 76, rfl⟩
abbrev main_v52 : Ref sig .tc := ⟨.hbm, 77, rfl⟩
abbrev main_v53 : Ref sig .tc := ⟨.hbm, 78, rfl⟩
abbrev main_c_18 : Ref sig .tc := ⟨.hbm, 79, rfl⟩
abbrev main_v54 : Ref sig .tc := ⟨.hbm, 80, rfl⟩
abbrev main_v55 : Ref sig .tc := ⟨.hbm, 81, rfl⟩
abbrev main_c_19 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_20 : Ref sig .tc := ⟨.hbm, 86, rfl⟩
abbrev main_call3_v0 : Ref sig .tc := ⟨.hbm, 87, rfl⟩
abbrev main_call3_v1 : Ref sig .tc := ⟨.hbm, 88, rfl⟩
abbrev main_v59 : Ref sig .tc := ⟨.hbm, 89, rfl⟩
abbrev main_c_21 : Ref sig .tc := ⟨.hbm, 90, rfl⟩
abbrev main_v60 : Ref sig .tc := ⟨.hbm, 91, rfl⟩
abbrev main_v61 : Ref sig .tc := ⟨.hbm, 92, rfl⟩
abbrev main_c_22 : Ref sig .tc := ⟨.hbm, 93, rfl⟩
abbrev main_v62 : Ref sig .tc := ⟨.hbm, 94, rfl⟩
abbrev main_v63 : Ref sig .tc := ⟨.hbm, 95, rfl⟩
abbrev main_c_23 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_24 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_25 : Ref sig .tc := ⟨.hbm, 104, rfl⟩
abbrev main_v70 : Ref sig .tc := ⟨.hbm, 105, rfl⟩
abbrev main_v71 : Ref sig .tc := ⟨.hbm, 106, rfl⟩
abbrev main_cst_26 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_27 : Ref sig .tc := ⟨.hbm, 111, rfl⟩
abbrev main_v75 : Ref sig .tc := ⟨.hbm, 112, rfl⟩
abbrev main_v76 : Ref sig .tc := ⟨.hbm, 113, rfl⟩
abbrev main_c_28 : Ref sig .tc := ⟨.hbm, 114, rfl⟩
abbrev main_v77 : Ref sig .tc := ⟨.hbm, 115, rfl⟩
abbrev main_v78 : Ref sig .tc := ⟨.hbm, 116, rfl⟩
abbrev main_c_29 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_30 : Ref sig .tc := ⟨.hbm, 121, rfl⟩
abbrev main_call5_v0 : Ref sig .tc := ⟨.hbm, 122, rfl⟩
abbrev main_call5_v1 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 8], ![false, false]⟩

def k0_off1 (i : grid0.Coords) (c0_i32_2 : BitVec 32) : Fin 2 → Nat :=
  let c0_3 : Index := 0#32
  let arg1 : BitVec 32 := BitVec.ofNat 32 (i 1).val
  let v5 : BitVec 32 := Scalar.addi c0_i32_2 arg1
  let v6 : Index := Scalar.indexCast v5
  ![0, v6.toNat]
def k0_off2 (i : grid0.Coords) (c0_i32_4 : BitVec 32) : Fin 2 → Nat :=
  let c1 : Index := 1#32
  let arg1 : BitVec 32 := BitVec.ofNat 32 (i 1).val
  let v12 : BitVec 32 := Scalar.addi c0_i32_4 arg1
  let v13 : Index := Scalar.indexCast v12
  ![1, v13.toNat]
def k0_off3 (i : grid0.Coords) (c0_i32_5 : BitVec 32) : Fin 2 → Nat :=
  let c2 : Index := 2#32
  let arg1 : BitVec 32 := BitVec.ofNat 32 (i 1).val
  let v19 : BitVec 32 := Scalar.addi c0_i32_5 arg1
  let v20 : Index := Scalar.indexCast v19
  ![2, v20.toNat]
def k0_off4 (i : grid0.Coords) (c0_i32_6 : BitVec 32) : Fin 2 → Nat :=
  let c3 : Index := 3#32
  let arg1 : BitVec 32 := BitVec.ofNat 32 (i 1).val
  let v26 : BitVec 32 := Scalar.addi c0_i32_6 arg1
  let v27 : Index := Scalar.indexCast v26
  ![3, v27.toNat]
def k0_off5 (i : grid0.Coords) (c0_i32_7 : BitVec 32) : Fin 2 → Nat :=
  let c4 : Index := 4#32
  let arg1 : BitVec 32 := BitVec.ofNat 32 (i 1).val
  let v33 : BitVec 32 := Scalar.addi c0_i32_7 arg1
  let v34 : Index := Scalar.indexCast v33
  ![4, v34.toNat]
def k0_off6 (i : grid0.Coords) (c0_i32_8 : BitVec 32) : Fin 2 → Nat :=
  let c5 : Index := 5#32
  let arg1 : BitVec 32 := BitVec.ofNat 32 (i 1).val
  let v40 : BitVec 32 := Scalar.addi c0_i32_8 arg1
  let v41 : Index := Scalar.indexCast v40
  ![5, v41.toNat]
def k0_off7 (i : grid0.Coords) (c0_i32_9 : BitVec 32) : Fin 2 → Nat :=
  let c6 : Index := 6#32
  let arg1 : BitVec 32 := BitVec.ofNat 32 (i 1).val
  let v47 : BitVec 32 := Scalar.addi c0_i32_9 arg1
  let v48 : Index := Scalar.indexCast v47
  ![6, v48.toNat]
def k0_off8 (i : grid0.Coords) (c0_i32_10 : BitVec 32) : Fin 2 → Nat :=
  let c7 : Index := 7#32
  let arg1 : BitVec 32 := BitVec.ofNat 32 (i 1).val
  let v54 : BitVec 32 := Scalar.addi c0_i32_10 arg1
  let v55 : Index := Scalar.indexCast v54
  ![7, v55.toNat]
def k0_off9 (i : grid0.Coords) (c0_i32_11 : BitVec 32) : Fin 2 → Nat :=
  let c8 : Index := 8#32
  let arg1 : BitVec 32 := BitVec.ofNat 32 (i 1).val
  let v61 : BitVec 32 := Scalar.addi c0_i32_11 arg1
  let v62 : Index := Scalar.indexCast v61
  ![8, v62.toNat]
def k0_off10 (i : grid0.Coords) (c0_i32_12 : BitVec 32) : Fin 2 → Nat :=
  let c9 : Index := 9#32
  let arg1 : BitVec 32 := BitVec.ofNat 32 (i 1).val
  let v68 : BitVec 32 := Scalar.addi c0_i32_12 arg1
  let v69 : Index := Scalar.indexCast v68
  ![9, v69.toNat]
def k0_off11 (i : grid0.Coords) (c0_i32_13 : BitVec 32) : Fin 2 → Nat :=
  let c10 : Index := 10#32
  let arg1 : BitVec 32 := BitVec.ofNat 32 (i 1).val
  let v75 : BitVec 32 := Scalar.addi c0_i32_13 arg1
  let v76 : Index := Scalar.indexCast v75
  ![10, v76.toNat]
def k0_off12 (i : grid0.Coords) (c0_i32_14 : BitVec 32) : Fin 2 → Nat :=
  let c11 : Index := 11#32
  let arg1 : BitVec 32 := BitVec.ofNat 32 (i 1).val
  let v82 : BitVec 32 := Scalar.addi c0_i32_14 arg1
  let v83 : Index := Scalar.indexCast v82
  ![11, v83.toNat]
def k0_off13 (i : grid0.Coords) (c0_i32_15 : BitVec 32) : Fin 2 → Nat :=
  let c12 : Index := 12#32
  let arg1 : BitVec 32 := BitVec.ofNat 32 (i 1).val
  let v89 : BitVec 32 := Scalar.addi c0_i32_15 arg1
  let v90 : Index := Scalar.indexCast v89
  ![12, v90.toNat]
def k0_off14 (i : grid0.Coords) (c0_i32_16 : BitVec 32) : Fin 2 → Nat :=
  let c13 : Index := 13#32
  let arg1 : BitVec 32 := BitVec.ofNat 32 (i 1).val
  let v96 : BitVec 32 := Scalar.addi c0_i32_16 arg1
  let v97 : Index := Scalar.indexCast v96
  ![13, v97.toNat]
def k0_off15 (i : grid0.Coords) (c0_i32_17 : BitVec 32) : Fin 2 → Nat :=
  let c14 : Index := 14#32
  let arg1 : BitVec 32 := BitVec.ofNat 32 (i 1).val
  let v103 : BitVec 32 := Scalar.addi c0_i32_17 arg1
  let v104 : Index := Scalar.indexCast v103
  ![14, v104.toNat]
def k0_off16 (i : grid0.Coords) (c0_i32_18 : BitVec 32) : Fin 2 → Nat :=
  let c15 : Index := 15#32
  let arg1 : BitVec 32 := BitVec.ofNat 32 (i 1).val
  let v110 : BitVec 32 := Scalar.addi c0_i32_18 arg1
  let v111 : Index := Scalar.indexCast v110
  ![15, v111.toNat]
def k0_off17 (i : grid0.Coords) (c0_i32_19 : BitVec 32) : Fin 2 → Nat :=
  let c16 : Index := 16#32
  let arg1 : BitVec 32 := BitVec.ofNat 32 (i 1).val
  let v117 : BitVec 32 := Scalar.addi c0_i32_19 arg1
  let v118 : Index := Scalar.indexCast v117
  ![16, v118.toNat]
def k0_off18 (i : grid0.Coords) (c0_i32_20 : BitVec 32) : Fin 2 → Nat :=
  let c17 : Index := 17#32
  let arg1 : BitVec 32 := BitVec.ofNat 32 (i 1).val
  let v124 : BitVec 32 := Scalar.addi c0_i32_20 arg1
  let v125 : Index := Scalar.indexCast v124
  ![17, v125.toNat]
def k0_off19 (i : grid0.Coords) (c0_i32_21 : BitVec 32) : Fin 2 → Nat :=
  let c18 : Index := 18#32
  let arg1 : BitVec 32 := BitVec.ofNat 32 (i 1).val
  let v131 : BitVec 32 := Scalar.addi c0_i32_21 arg1
  let v132 : Index := Scalar.indexCast v131
  ![18, v132.toNat]
def k0_off20 (i : grid0.Coords) (c0_i32_22 : BitVec 32) : Fin 2 → Nat :=
  let c19 : Index := 19#32
  let arg1 : BitVec 32 := BitVec.ofNat 32 (i 1).val
  let v138 : BitVec 32 := Scalar.addi c0_i32_22 arg1
  let v139 : Index := Scalar.indexCast v138
  ![19, v139.toNat]
def k0_off21 (i : grid0.Coords) (c0_i32_23 : BitVec 32) : Fin 2 → Nat :=
  let c20 : Index := 20#32
  let arg1 : BitVec 32 := BitVec.ofNat 32 (i 1).val
  let v145 : BitVec 32 := Scalar.addi c0_i32_23 arg1
  let v146 : Index := Scalar.indexCast v145
  ![20, v146.toNat]
def k0_off22 (i : grid0.Coords) (c0_i32_24 : BitVec 32) : Fin 2 → Nat :=
  let c21 : Index := 21#32
  let arg1 : BitVec 32 := BitVec.ofNat 32 (i 1).val
  let v152 : BitVec 32 := Scalar.addi c0_i32_24 arg1
  let v153 : Index := Scalar.indexCast v152
  ![21, v153.toNat]
def k0_off23 (i : grid0.Coords) (c0_i32_25 : BitVec 32) : Fin 2 → Nat :=
  let c22 : Index := 22#32
  let arg1 : BitVec 32 := BitVec.ofNat 32 (i 1).val
  let v159 : BitVec 32 := Scalar.addi c0_i32_25 arg1
  let v160 : Index := Scalar.indexCast v159
  ![22, v160.toNat]
def k0_off24 (i : grid0.Coords) (c0_i32_26 : BitVec 32) : Fin 2 → Nat :=
  let c23 : Index := 23#32
  let arg1 : BitVec 32 := BitVec.ofNat 32 (i 1).val
  let v166 : BitVec 32 := Scalar.addi c0_i32_26 arg1
  let v167 : Index := Scalar.indexCast v166
  ![23, v167.toNat]
def k0_off25 (i : grid0.Coords) (c0_i32_27 : BitVec 32) : Fin 2 → Nat :=
  let c24 : Index := 24#32
  let arg1 : BitVec 32 := BitVec.ofNat 32 (i 1).val
  let v173 : BitVec 32 := Scalar.addi c0_i32_27 arg1
  let v174 : Index := Scalar.indexCast v173
  ![24, v174.toNat]
def k0_off26 (i : grid0.Coords) (c0_i32_28 : BitVec 32) : Fin 2 → Nat :=
  let c25 : Index := 25#32
  let arg1 : BitVec 32 := BitVec.ofNat 32 (i 1).val
  let v180 : BitVec 32 := Scalar.addi c0_i32_28 arg1
  let v181 : Index := Scalar.indexCast v180
  ![25, v181.toNat]
def k0_off27 (i : grid0.Coords) (c0_i32_29 : BitVec 32) : Fin 2 → Nat :=
  let c26 : Index := 26#32
  let arg1 : BitVec 32 := BitVec.ofNat 32 (i 1).val
  let v187 : BitVec 32 := Scalar.addi c0_i32_29 arg1
  let v188 : Index := Scalar.indexCast v187
  ![26, v188.toNat]
def k0_off28 (i : grid0.Coords) (c0_i32_30 : BitVec 32) : Fin 2 → Nat :=
  let c27 : Index := 27#32
  let arg1 : BitVec 32 := BitVec.ofNat 32 (i 1).val
  let v194 : BitVec 32 := Scalar.addi c0_i32_30 arg1
  let v195 : Index := Scalar.indexCast v194
  ![27, v195.toNat]
def k0_off29 (i : grid0.Coords) (c0_i32_31 : BitVec 32) : Fin 2 → Nat :=
  let c28 : Index := 28#32
  let arg1 : BitVec 32 := BitVec.ofNat 32 (i 1).val
  let v201 : BitVec 32 := Scalar.addi c0_i32_31 arg1
  let v202 : Index := Scalar.indexCast v201
  ![28, v202.toNat]
def k0_off30 (i : grid0.Coords) (c0_i32_32 : BitVec 32) : Fin 2 → Nat :=
  let c29 : Index := 29#32
  let arg1 : BitVec 32 := BitVec.ofNat 32 (i 1).val
  let v208 : BitVec 32 := Scalar.addi c0_i32_32 arg1
  let v209 : Index := Scalar.indexCast v208
  ![29, v209.toNat]
def k0_off31 (i : grid0.Coords) (c0_i32_33 : BitVec 32) : Fin 2 → Nat :=
  let c30 : Index := 30#32
  let arg1 : BitVec 32 := BitVec.ofNat 32 (i 1).val
  let v215 : BitVec 32 := Scalar.addi c0_i32_33 arg1
  let v216 : Index := Scalar.indexCast v215
  ![30, v216.toNat]
def k0_off32 (i : grid0.Coords) (c0_i32_34 : BitVec 32) : Fin 2 → Nat :=
  let c31 : Index := 31#32
  let arg1 : BitVec 32 := BitVec.ofNat 32 (i 1).val
  let v222 : BitVec 32 := Scalar.addi c0_i32_34 arg1
  let v223 : Index := Scalar.indexCast v222
  ![31, v223.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S16384x3072 : Shape := ⟨2, ![16384, 3072]⟩
abbrev S16384x6144 : Shape := ⟨2, ![16384, 6144]⟩
abbrev S32x24 : Shape := ⟨2, ![32, 24]⟩
abbrev S3 : Shape := ⟨1, ![3]⟩
abbrev S8x2048x3x8x128 : Shape := ⟨5, ![8, 2048, 3, 8, 128]⟩
abbrev S8x2048x2x3x8x128 : Shape := ⟨6, ![8, 2048, 2, 3, 8, 128]⟩
abbrev S8x2048x1x3x8x128 : Shape := ⟨6, ![8, 2048, 1, 3, 8, 128]⟩
abbrev S3x1x1 : Shape := ⟨3, ![3, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S3x2048x2048 : Shape := ⟨3, ![3, 2048, 2048]⟩
abbrev S2048x2048x1 : Shape := ⟨3, ![2048, 2048, 1]⟩
abbrev S2048x2048x24 : Shape := ⟨3, ![2048, 2048, 24]⟩
abbrev S2048x2048x3x8 : Shape := ⟨4, ![2048, 2048, 3, 8]⟩
abbrev S3x8x2048x2048 : Shape := ⟨4, ![3, 8, 2048, 2048]⟩
abbrev S8x3x8x2048x2048 : Shape := ⟨5, ![8, 3, 8, 2048, 2048]⟩
abbrev S1x3x8x2048x2048 : Shape := ⟨5, ![1, 3, 8, 2048, 2048]⟩
abbrev S1x3x1x2048x2048 : Shape := ⟨5, ![1, 3, 1, 2048, 2048]⟩
abbrev S8x3x8x2048 : Shape := ⟨4, ![8, 3, 8, 2048]⟩
abbrev S8x3x8x2048x1 : Shape := ⟨5, ![8, 3, 8, 2048, 1]⟩
abbrev S8x3x8x2048x128 : Shape := ⟨5, ![8, 3, 8, 2048, 128]⟩
abbrev S8x8x2048x1 : Shape := ⟨4, ![8, 8, 2048, 1]⟩
abbrev S8x1x8x2048x1 : Shape := ⟨5, ![8, 1, 8, 2048, 1]⟩
abbrev S8x8x2048x128 : Shape := ⟨4, ![8, 8, 2048, 128]⟩
abbrev S8x2048x8x128 : Shape := ⟨4, ![8, 2048, 8, 128]⟩
abbrev S16384x1024 : Shape := ⟨2, ![16384, 1024]⟩

abbrev nBuf : Space → Nat
  | .hbm => 127
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x6144, .f32⟩
  | .hbm, ⟨2, _⟩ => ⟨S32x24, .f32⟩
  | .hbm, ⟨3, _⟩ => ⟨S3, .i32⟩
  | .hbm, ⟨4, _⟩ => ⟨S8x2048x3x8x128, .f32⟩
  | .hbm, ⟨5, _⟩ => ⟨S8x2048x2x3x8x128, .f32⟩
  | .hbm, ⟨6, _⟩ => ⟨S8x2048x1x3x8x128, .f32⟩
  | .hbm, ⟨7, _⟩ => ⟨S8x2048x3x8x128, .f32⟩
  | .hbm, ⟨8, _⟩ => ⟨S8x2048x1x3x8x128, .f32⟩
  | .hbm, ⟨9, _⟩ => ⟨S8x2048x3x8x128, .f32⟩
  | .hbm, ⟨10, _⟩ => ⟨S3x1x1, .i32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S3x1x1, .i32⟩
  | .hbm, ⟨23, _⟩ => ⟨S3x1x1, .i32⟩
  | .hbm, ⟨24, _⟩ => ⟨S1x2048x2048, .i32⟩
  | .hbm, ⟨25, _⟩ => ⟨S3x2048x2048, .i32⟩
  | .hbm, ⟨26, _⟩ => ⟨S3x2048x2048, .i32⟩
  | .hbm, ⟨27, _⟩ => ⟨S3x2048x2048, .i1⟩
  | .hbm, ⟨28, _⟩ => ⟨S1x2048x2048, .i1⟩
  | .hbm, ⟨29, _⟩ => ⟨S3x2048x2048, .i1⟩
  | .hbm, ⟨30, _⟩ => ⟨S3x2048x2048, .i1⟩
  | .hbm, ⟨31, _⟩ => ⟨S1x2048x2048, .i32⟩
  | .hbm, ⟨32, _⟩ => ⟨S3x2048x2048, .i32⟩
  | .hbm, ⟨33, _⟩ => ⟨S3x2048x2048, .i32⟩
  | .hbm, ⟨34, _⟩ => ⟨S3x2048x2048, .i32⟩
  | .hbm, ⟨35, _⟩ => ⟨S_, .i32⟩
  | .hbm, ⟨36, _⟩ => ⟨S3x2048x2048, .i32⟩
  | .hbm, ⟨37, _⟩ => ⟨S3x2048x2048, .i1⟩
  | .hbm, ⟨38, _⟩ => ⟨S3x2048x2048, .i1⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S_, .i32⟩
  | .hbm, ⟨64, _⟩ => ⟨S2048x2048, .i32⟩
  | .hbm, ⟨65, _⟩ => ⟨S2048x2048, .i1⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i32⟩
  | .hbm, ⟨73, _⟩ => ⟨S2048x2048, .i32⟩
  | .hbm, ⟨74, _⟩ => ⟨S2048x2048x1, .i32⟩
  | .hbm, ⟨75, _⟩ => ⟨S2048x2048x24, .f32⟩
  | .hbm, ⟨76, _⟩ => ⟨S2048x2048x3x8, .f32⟩
  | .hbm, ⟨77, _⟩ => ⟨S3x8x2048x2048, .f32⟩
  | .hbm, ⟨78, _⟩ => ⟨S8x3x8x2048x2048, .f32⟩
  | .hbm, ⟨79, _⟩ => ⟨S_, .f32⟩
  | .hbm, ⟨80, _⟩ => ⟨S_, .f32⟩
  | .hbm, ⟨81, _⟩ => ⟨S8x3x8x2048x2048, .f32⟩
  | .hbm, ⟨82, _⟩ => ⟨S8x3x8x2048x2048, .f32⟩
  | .hbm, ⟨83, _⟩ => ⟨S1x3x8x2048x2048, .f32⟩
  | .hbm, ⟨84, _⟩ => ⟨S8x3x8x2048x2048, .f32⟩
  | .hbm, ⟨85, _⟩ => ⟨S8x3x8x2048x2048, .f32⟩
  | .hbm, ⟨86, _⟩ => ⟨S1x3x1x2048x2048, .i1⟩
  | .hbm, ⟨87, _⟩ => ⟨S_, .f32⟩
  | .hbm, ⟨88, _⟩ => ⟨S_, .f32⟩
  | .hbm, ⟨89, _⟩ => ⟨S8x3x8x2048x2048, .i1⟩
  | .hbm, ⟨90, _⟩ => ⟨S8x3x8x2048x2048, .f32⟩
  | .hbm, ⟨91, _⟩ => ⟨S8x3x8x2048x2048, .f32⟩
  | .hbm, ⟨92, _⟩ => ⟨S_, .f32⟩
  | .hbm, ⟨93, _⟩ => ⟨S8x3x8x2048, .f32⟩
  | .hbm, ⟨94, _⟩ => ⟨S8x3x8x2048x1, .f32⟩
  | .hbm, ⟨95, _⟩ => ⟨S8x3x8x2048x2048, .f32⟩
  | .hbm, ⟨96, _⟩ => ⟨S8x3x8x2048x2048, .f32⟩
  | .hbm, ⟨97, _⟩ => ⟨S8x3x8x2048x2048, .f32⟩
  | .hbm, ⟨98, _⟩ => ⟨S_, .f32⟩
  | .hbm, ⟨99, _⟩ => ⟨S8x3x8x2048, .f32⟩
  | .hbm, ⟨100, _⟩ => ⟨S8x3x8x2048x1, .f32⟩
  | .hbm, ⟨101, _⟩ => ⟨S8x3x8x2048x2048, .f32⟩
  | .hbm, ⟨102, _⟩ => ⟨S8x3x8x2048x2048, .f32⟩
  | .hbm, ⟨103, _⟩ => ⟨S8x3x8x2048x128, .f32⟩
  | .hbm, ⟨104, _⟩ => ⟨S8x3x8x2048x1, .f32⟩
  | .hbm, ⟨105, _⟩ => ⟨S8x3x8x2048x1, .f32⟩
  | .hbm, ⟨106, _⟩ => ⟨S_, .f32⟩
  | .hbm, ⟨107, _⟩ => ⟨S8x8x2048x1, .f32⟩
  | .hbm, ⟨108, _⟩ => ⟨S_, .f32⟩
  | .hbm, ⟨109, _⟩ => ⟨S8x8x2048x1, .f32⟩
  | .hbm, ⟨110, _⟩ => ⟨S8x8x2048x1, .f32⟩
  | .hbm, ⟨111, _⟩ => ⟨S8x1x8x2048x1, .f32⟩
  | .hbm, ⟨112, _⟩ => ⟨S8x3x8x2048x1, .f32⟩
  | .hbm, ⟨113, _⟩ => ⟨S8x3x8x2048x1, .f32⟩
  | .hbm, ⟨114, _⟩ => ⟨S8x3x8x2048x1, .f32⟩
  | .hbm, ⟨115, _⟩ => ⟨S_, .f32⟩
  | .hbm, ⟨116, _⟩ => ⟨S8x8x2048x1, .f32⟩
  | .hbm, ⟨117, _⟩ => ⟨S8x1x8x2048x1, .f32⟩
  | .hbm, ⟨118, _⟩ => ⟨S8x3x8x2048x1, .f32⟩
  | .hbm, ⟨119, _⟩ => ⟨S8x3x8x2048x1, .f32⟩
  | .hbm, ⟨120, _⟩ => ⟨S8x3x8x2048x128, .f32⟩
  | .hbm, ⟨121, _⟩ => ⟨S8x3x8x2048x128, .f32⟩
  | .hbm, ⟨122, _⟩ => ⟨S_, .f32⟩
  | .hbm, ⟨123, _⟩ => ⟨S8x8x2048x128, .f32⟩
  | .hbm, ⟨124, _⟩ => ⟨S8x2048x8x128, .f32⟩
  | .hbm, ⟨125, _⟩ => ⟨S16384x1024, .f32⟩
  | .hbm, ⟨126, _⟩ => ⟨S16384x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_10 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== Kernel2.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S4096x16384, .bf16⟩
  | .hbm, ⟨3, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S16384x4096, .f32⟩
  | .hbm, ⟨3, _⟩ => ⟨S16384x16384, .f32⟩
  | .hbm, ⟨4, _⟩ => ⟨S_, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S16384x16384 : Shape := ⟨2, ![16384, 16384]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S16384x4096, .bf16⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x16384 : Shape := ⟨2, ![16384, 16384]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S16384x16384, .f32⟩
  | .hbm, ⟨4, _⟩ => ⟨S16384x4096, .f32⟩
  | .hbm, ⟨5, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x4096 : Shape := ⟨2, ![16384, 4096]⟩
abbrev S4096x6144 : Shape := ⟨2, ![4096, 6144]⟩
abbrev S16384x6144 : Shape := ⟨2, ![16384, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S4096x6144, .bf16⟩
  | .hbm, ⟨3, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x4096 : Shape := ⟨2, ![16384, 4096]⟩
abbrev S4096x6144 : Shape := ⟨2, ![4096, 6144]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S16384x4096, .f32⟩
  | .hbm, ⟨3, _⟩ => ⟨S16384x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S16384x3072 : Shape := ⟨2, ![16384, 3072]⟩
abbrev S16384x1024 : Shape := ⟨2, ![16384, 1024]⟩
abbrev S4096x4096 : Shape := ⟨2, ![4096, 4096]⟩
abbrev S16384x4096 : Shape := ⟨2, ![16384, 4096]⟩
abbrev S1024x3072 : Shape := ⟨2, ![1024, 3072]⟩
abbrev S1024x1024 : Shape := ⟨2, ![1024, 1024]⟩
abbrev S4096x512 : Shape := ⟨2, ![4096, 512]⟩
abbrev S1024x512 : Shape := ⟨2, ![1024, 512]⟩
abbrev S3072x512 : Shape := ⟨2, ![3072, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S16384x3072 : Shape := ⟨2, ![16384, 3072]⟩
abbrev S16384x1024 : Shape := ⟨2, ![16384, 1024]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S4096x4096, .f32⟩
  | .hbm, ⟨3, _⟩ => ⟨S16384x4096, .f32⟩
  | .hbm, ⟨4, _⟩ => ⟨S16384x3072, .f32⟩
  | .hbm, ⟨5, _⟩ => ⟨S16384x1024, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S16384x1024 : Shape := ⟨2, ![16384, 1024]⟩
abbrev S2048x4096 : Shape := ⟨2, ![2048, 4096]⟩
abbrev S16384x4096 : Shape := ⟨2, ![16384, 4096]⟩
abbrev S1024x1024 : Shape := ⟨2, ![1024, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x4096, .f32⟩
  | .hbm, ⟨3, _⟩ => ⟨S16384x4096, .f32⟩
  | .hbm, ⟨4, _⟩ => ⟨S2048x4096, .bf16⟩
  | .hbm, ⟨5, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S16384x1024 : Shape := ⟨2, ![16384, 1024]⟩
abbrev S2048x4096 : Shape := ⟨2, ![2048, 4096]⟩
abbrev S16384x4096 : Shape := ⟨2, ![16384, 4096]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x4096, .f32⟩
  | .hbm, ⟨8, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S16384x4096 : Shape := ⟨2, ![16384, 4096]⟩
abbrev S4096x4096 : Shape := ⟨2, ![4096, 4096]⟩
abbrev S16384x3072 : Shape := ⟨2, ![16384, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4096x4096, .bf16⟩
  | .hbm, ⟨3, _⟩ => ⟨S16384x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x4096 : Shape := ⟨2, ![16384, 4096]⟩
abbrev S4096x4096 : Shape := ⟨2, ![4096, 4096]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x3072, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x4096 : Shape := ⟨2, ![16384, 4096]⟩
abbrev S4096x4096 : Shape := ⟨2, ![4096, 4096]⟩
abbrev S2048x2048 : Shape := ⟨2, ![2048, 2048]⟩
abbrev S16384x1024 : Shape := ⟨2, ![16384, 1024]⟩
abbrev S1024x4096 : Shape := ⟨2, ![1024, 4096]⟩
abbrev S4096x256 : Shape := ⟨2, ![4096, 256]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S2048x2048, .bf16⟩
  | .hbm, ⟨3, _⟩ => ⟨S4096x4096, .bf16⟩
  | .hbm, ⟨4, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1024x256, .bf16⟩
  | .local _ .vmem, ⟨9, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference9Ideal.lean ====
abbrev S16384x4096 : Shape := ⟨2, ![16384, 4096]⟩
abbrev S4096x4096 : Shape := ⟨2, ![4096, 4096]⟩
abbrev S2048x2048 : Shape := ⟨2, ![2048, 2048]⟩
abbrev S16384x1024 : Shape := ⟨2, ![16384, 1024]⟩
abbrev S8x2048x4x256 : Shape := ⟨4, ![8, 2048, 4, 256]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S2048x2048, .bf16⟩
  | .hbm, ⟨3, _⟩ => ⟨S16384x4096, .f32⟩
  | .hbm, ⟨4, _⟩ => ⟨S16384x4096, .f32⟩
  | .hbm, ⟨5, _⟩ => ⟨S16384x1024, .f32⟩
  | .hbm, ⟨6, _⟩ => ⟨S8x2048x4x256, .f32⟩
  | .hbm, ⟨7, _⟩ => ⟨S2048x2048, .f32⟩
  | .hbm, ⟨8, _⟩ => ⟨S8x256x2x4x256, .f32⟩
  | .hbm, ⟨9, _⟩ => ⟨S8x256x1x4x256, .f32⟩
  | .hbm, ⟨10, _⟩ => ⟨S8x256x4x256, .f32⟩
  | .hbm, ⟨11, _⟩ => ⟨S8x256x1x4x256, .f32⟩
  | .hbm, ⟨12, _⟩ => ⟨S8x256x4x256, .f32⟩
  | .hbm, ⟨13, _⟩ => ⟨S8x4x2048x256, .f32⟩
  | .hbm, ⟨14, _⟩ => ⟨S_, .f32⟩
  | .hbm, ⟨15, _⟩ => ⟨S8x4x2048x256, .f32⟩
  | .hbm, ⟨16, _⟩ => ⟨S8x4x2048x256, .f32⟩
  | .hbm, ⟨17, _⟩ => ⟨S_, .f32⟩
  | .hbm, ⟨18, _⟩ => ⟨S8x4x2048, .f32⟩
  | .hbm, ⟨19, _⟩ => ⟨S_, .f32⟩
  | .hbm, ⟨20, _⟩ => ⟨S8x4x2048, .f32⟩
  | .hbm, ⟨21, _⟩ => ⟨S8x4x2048, .f32⟩
  | .hbm, ⟨22, _⟩ => ⟨S8x4x2048x1, .f32⟩
  | .hbm, ⟨23, _⟩ => ⟨S8x4x2048x256, .f32⟩
  | .hbm, ⟨24, _⟩ => ⟨S8x4x2048x256, .f32⟩
  | .hbm, ⟨25, _⟩ => ⟨S8x4x2048x256, .f32⟩
  | .hbm, ⟨26, _⟩ => ⟨S_, .f32⟩
  | .hbm, ⟨27, _⟩ => ⟨S8x4x2048, .f32⟩
  | .hbm, ⟨28, _⟩ => ⟨S8x4x2048x1, .f32⟩
  | .hbm, ⟨29, _⟩ => ⟨S8x4x2048x256, .f32⟩
  | .hbm, ⟨30, _⟩ => ⟨S8x4x2048x256, .f32⟩
  | .hbm, ⟨31, _⟩ => ⟨S8x4x256x2048, .f32⟩
  | .hbm, ⟨32, _⟩ => ⟨S8x2048x4x256, .f32⟩
  | .hbm, ⟨33, _⟩ => ⟨S16384x1024, .f32⟩
  | .hbm, ⟨34, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Row.lean ====
/- One row of a masked softmax attention over the extended reals, and the merge of three of them by their
   log-sum-exps. A logit is a real number or −∞ (a masked key); at least one logit of a row is real. Then the
   row's maximum and its denominator are real, the denominator is positive, and dividing the weighted sum by it
   once is dividing every weight. -/
module

public import Idealize.ShloMosaic.PureOps.Ideal
public import Mathlib.Data.EReal.Operations
public import Mathlib.Data.EReal.Inv
public import Mathlib.Algebra.BigOperators.Fin
public import Mathlib.Analysis.SpecialFunctions.Log.Basic

@[expose] public section

noncomputable section

namespace Cert.Dil

open Idealize.ShloMosaic

/-- The row's maximum, from −∞. -/
def mx {n : Nat} (s : Fin n → EReal) : EReal := Finset.fold max ⊥ s Finset.univ

/-- The row's weights before normalisation. -/
def wt {n : Nat} (s : Fin n → EReal) (j : Fin n) : EReal := Ideal.exp (s j - mx s)

/-- The row's denominator. -/
def den {n : Nat} (s : Fin n → EReal) : EReal := ∑ j, wt s j

/-- The row's output: the weighted sum of the values, divided once. -/
def rowO {n : Nat} (s v : Fin n → EReal) : EReal := (∑ j, wt s j * v j) * Ideal.div 1 (den s)

/-- The row's log-sum-exp. -/
def rowL {n : Nat} (s : Fin n → EReal) : EReal := mx s + Ideal.log (den s)

/-- A row of logits: no `+∞`, and not all `−∞`. -/
structure Logits {n : Nat} (s : Fin n → EReal) : Prop where
  ne_top : ∀ j, s j ≠ ⊤
  exists_real : ∃ j, s j ≠ ⊥

theorem mx_eq_sup {n : Nat} (s : Fin n → EReal) : mx s = Finset.univ.sup s := rfl

theorem Logits.mx_real {n : Nat} {s : Fin n → EReal} (h : Logits s) : ∃ M : ℝ, mx s = (M : EReal) := by
  obtain ⟨j, hj⟩ := h.exists_real
  obtain ⟨k, -, hk⟩ := Finset.exists_mem_eq_sup Finset.univ ⟨j, Finset.mem_univ j⟩ s
  have hle : s j ≤ mx s := by rw [mx_eq_sup]; exact Finset.le_sup (Finset.mem_univ j)
  refine ⟨(mx s).toReal, (EReal.coe_toReal ?_ ?_).symm⟩
  · rw [mx_eq_sup, hk]; exact h.ne_top k
  · intro hb; rw [hb] at hle; exact hj (le_bot_iff.mp hle)

theorem Logits.wt_real {n : Nat} {s : Fin n → EReal} (h : Logits s) (j : Fin n) :
    ∃ w : ℝ, wt s j = (w : EReal) ∧ 0 ≤ w ∧ (s j ≠ ⊥ → 0 < w) := by
  obtain ⟨M, hM⟩ := h.mx_real
  have ht := h.ne_top j
  unfold wt
  rw [hM]
  induction hs : s j with
  | bot => exact ⟨0, by simp, le_rfl, fun hn => absurd rfl hn⟩
  | top => exact absurd hs ht
  | coe x =>
    refine ⟨Real.exp (x - M), ?_, (Real.exp_pos _).le, fun _ => Real.exp_pos _⟩
    rw [← EReal.coe_sub]; rfl

/-- A finite sum of reals is that real sum. -/
theorem sum_coe {ι : Type} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

theorem Logits.den_real {n : Nat} {s : Fin n → EReal} (h : Logits s) : ∃ D : ℝ, den s = (D : EReal) ∧ 0 < D := by
  choose w hw h0 hpos using h.wt_real
  obtain ⟨j, hj⟩ := h.exists_real
  refine ⟨∑ k, w k, ?_, ?_⟩
  · unfold den; rw [← sum_coe]; exact Finset.sum_congr rfl fun k _ => hw k
  · exact Finset.sum_pos' (fun k _ => h0 k) ⟨j, Finset.mem_univ j, hpos j hj⟩

theorem Logits.rowL_real {n : Nat} {s : Fin n → EReal} (h : Logits s) : ∃ l : ℝ, rowL s = (l : EReal) := by
  obtain ⟨M, hM⟩ := h.mx_real
  obtain ⟨D, hD, hpos⟩ := h.den_real
  refine ⟨M + Real.log D, ?_⟩
  unfold rowL
  rw [hM, hD, Ideal.log_coe, if_neg (not_le.mpr hpos), EReal.coe_add]

/-- A sum times a nonnegative real is the sum of the products. -/
theorem sum_mul_coe {ι : Type} (t : Finset ι) (f : ι → EReal) {c : ℝ} (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- The row's output with every weight divided: the same number. -/
theorem Logits.rowO_eq {n : Nat} {s : Fin n → EReal} (h : Logits s) (v : Fin n → EReal) :
    rowO s v = ∑ j, Ideal.div (wt s j) (den s) * v j := by
  obtain ⟨D, hD, hpos⟩ := h.den_real
  unfold rowO
  rw [hD, Ideal.div_coe hpos.ne', one_mul, sum_mul_coe _ _ (by positivity)]
  refine Finset.sum_congr rfl fun j _ => ?_
  rw [Ideal.div_coe hpos.ne', mul_right_comm]

/-- The merge of three rows by their log-sum-exps, divided once. -/
def merge (o l : Fin 3 → EReal) : EReal :=
  (o 0 * Ideal.exp (l 0 - max (max (l 0) (l 1)) (l 2)) + o 1 * Ideal.exp (l 1 - max (max (l 0) (l 1)) (l 2))
      + o 2 * Ideal.exp (l 2 - max (max (l 0) (l 1)) (l 2)))
    * Ideal.div 1 (Ideal.exp (l 0 - max (max (l 0) (l 1)) (l 2)) + Ideal.exp (l 1 - max (max (l 0) (l 1)) (l 2))
      + Ideal.exp (l 2 - max (max (l 0) (l 1)) (l 2)))

theorem mx_three (l : Fin 3 → EReal) : mx l = max (max (l 0) (l 1)) (l 2) := by
  rw [mx_eq_sup]
  apply le_antisymm
  · refine Finset.sup_le fun j _ => ?_
    fin_cases j
    · exact le_trans (le_max_left _ _) (le_max_left _ _)
    · exact le_trans (le_max_right _ _) (le_max_left _ _)
    · exact le_max_right _ _
  · refine max_le (max_le ?_ ?_) ?_ <;> exact Finset.le_sup (Finset.mem_univ _)

/-- The merge is the softmax of the log-sum-exps applied to the outputs. -/
theorem merge_eq (o l : Fin 3 → EReal) (hl : Logits l) : merge o l = ∑ g, o g * Ideal.div (wt l g) (den l) := by
  obtain ⟨D, hD, hpos⟩ := hl.den_real
  have h1 : merge o l = (∑ g, o g * wt l g) * Ideal.div 1 (den l) := by
    unfold merge den wt
    rw [mx_three]
    simp only [Fin.sum_univ_three]
  rw [h1, hD, Ideal.div_coe hpos.ne', one_mul, sum_mul_coe _ _ (by positivity)]
  refine Finset.sum_congr rfl fun j _ => ?_
  rw [Ideal.div_coe hpos.ne', mul_assoc]

/-! ## Leaving out masked keys -/

theorem sup_halves (s : Fin 256 → EReal) (h : ∀ j : Fin 256, j.val < 128 → s j = ⊥) :
    mx s = mx fun j : Fin 128 => s ⟨128 + j.val, by omega⟩ := by
  rw [mx_eq_sup, mx_eq_sup]
  apply le_antisymm
  · refine Finset.sup_le fun j _ => ?_
    by_cases hj : j.val < 128
    · rw [h j hj]; exact bot_le
    · have : s j = (fun j : Fin 128 => s ⟨128 + j.val, by omega⟩) ⟨j.val - 128, by omega⟩ := by
        show s j = s _
        congr 1; apply Fin.ext; show j.val = 128 + (j.val - 128); omega
      rw [this]; exact Finset.le_sup (f := fun j : Fin 128 => s ⟨128 + j.val, by omega⟩) (Finset.mem_univ _)
  · exact Finset.sup_le fun j _ => Finset.le_sup (f := s) (Finset.mem_univ _)

theorem sum_halves (f : Fin 256 → EReal) (h : ∀ j : Fin 256, j.val < 128 → f j = 0) :
    ∑ j, f j = ∑ j : Fin 128, f ⟨128 + j.val, by omega⟩ := by
  have e := Fin.sum_univ_add (M := EReal) (a := 128) (b := 128) f
  rw [show (∑ j, f j) = ∑ j : Fin (128 + 128), f j from rfl, e, Finset.sum_eq_zero, zero_add]
  · rfl
  · intro j _; exact h _ j.isLt

theorem wt_halves {s : Fin 256 → EReal} (h : ∀ j : Fin 256, j.val < 128 → s j = ⊥) (j : Fin 256)
    (hj : j.val < 128) : wt s j = 0 := by
  unfold wt
  rw [h j hj, sub_eq_add_neg, EReal.bot_add]; exact Ideal.exp_bot

theorem den_halves {s : Fin 256 → EReal} (h : ∀ j : Fin 256, j.val < 128 → s j = ⊥) :
    den s = den fun j : Fin 128 => s ⟨128 + j.val, by omega⟩ := by
  unfold den
  rw [sum_halves _ (wt_halves h)]
  refine Finset.sum_congr rfl fun j _ => ?_
  unfold wt; rw [sup_halves s h]

/-- The row's output without the masked first half of its keys. -/
theorem rowO_halves {s : Fin 256 → EReal} (h : ∀ j : Fin 256, j.val < 128 → s j = ⊥) (v : Fin 256 → EReal) :
    rowO s v = rowO (fun j : Fin 128 => s ⟨128 + j.val, by omega⟩) fun j => v ⟨128 + j.val, by omega⟩ := by
  unfold rowO
  rw [den_halves h, sum_halves _ fun j hj => by rw [wt_halves h j hj, zero_mul]]
  congr 1
  refine Finset.sum_congr rfl fun j _ => ?_
  unfold wt; rw [sup_halves s h]

/-- The row's log-sum-exp without them. -/
theorem rowL_halves {s : Fin 256 → EReal} (h : ∀ j : Fin 256, j.val < 128 → s j = ⊥) :
    rowL s = rowL fun j : Fin 128 => s ⟨128 + j.val, by omega⟩ := by
  unfold rowL; rw [den_halves h, sup_halves s h]

end Cert.Dil

end
-- ==== Proof.Block.lean ====
/- The kernel's block of 128 queries, over arguments it is handed already cut: 256 keys (a block with a block before
   it) or 128 (the first block of a subsequence). Each result is one row of `Row.lean`'s attention. -/
module

public import proofs.«01_k».proof.Proof.Gen.KernelIdeal.Skeleton
public import proofs.«01_k».proof.Proof.Row
public import Idealize.ShloMosaic.Lib.Pointwise
public import Idealize.ShloMosaic.PureOps.Ideal

@[expose] public section

set_option maxRecDepth 16384

noncomputable section

namespace Cert.Dil

open Idealize.ShloMosaic Cert.KernelIdeal Cert.KernelIdeal.Gen

/-- The factor on the products. -/
def scale : EReal := Named.named (F := Ideal) (φ := .f32) Cert.KernelIdeal.κ "scale" 0x3DB504F3#32

/-! ## 256 keys -/

def lgW (b : FVec Ideal S128x256 .f32) (q : FVec Ideal S128x128 .bf16) (k : FVec Ideal S256x128 .bf16) : FVec Ideal S128x256 .f32 :=
  addf (mulf (matmul dot_S128x128_S256x128_S128x256_1_1_0_0_n_n none q k (constant S128x256 .f32 0x00000000#32))
    (broadcast S128x256 (Named.named Cert.KernelIdeal.κ "scale" 0x3DB504F3#32))) b

def mxW (s : FVec Ideal S128x256 .f32) : FVec Ideal S128x1 .f32 :=
  shapeCast S128x1 (multiReduction .maximumf [1] S128 s 0xFF800000#32 reduces_S128x256_S128 (.inl rfl) rfl) shapeCasts_S128_S128x1

def wtW (s : FVec Ideal S128x256 .f32) : FVec Ideal S128x256 .f32 :=
  exp (subf s (broadcastTo S128x256 (mxW s) broadcasts_S128x1_S128x256))

def denW (s : FVec Ideal S128x256 .f32) : FVec Ideal S128x1 .f32 :=
  shapeCast S128x1 (multiReduction .add [1] S128 (wtW s) 0x00000000#32 reduces_S128x256_S128 (.inl rfl) rfl) shapeCasts_S128_S128x1

def oW (s : FVec Ideal S128x256 .f32) (v : FVec Ideal S256x128 .bf16) : FVec Ideal S128x128 .f32 :=
  shapeCast S128x128 (mulf (matmul dot_S128x256_S256x128_S128x128_1_0_0_1_n_n none (truncf .bf16 (wtW s) bitsLt_bf16_f32) v
    (constant S128x128 .f32 0x00000000#32))
    (broadcastTo S128x128 (divf (broadcast S128x1 (Scalar.ofBits .f32 0x3F800000#32)) (denW s)) broadcasts_S128x1_S128x128))
    shapeCasts_S128x128_S128x128

def lW (s : FVec Ideal S128x256 .f32) : FVec Ideal S128x128 .f32 :=
  shapeCast S128x128 (broadcastTo S128x128 (shapeCast S128x1 (addf (mxW s) (log (denW s))) shapeCasts_S128x1_S128x1)
    broadcasts_S128x1_S128x128) shapeCasts_S128x128_S128x128

/-! ## 128 keys -/

def lgN (b : FVec Ideal S128x256 .f32) (q k : FVec Ideal S128x128 .bf16) : FVec Ideal S128x128 .f32 :=
  addf (mulf (matmul dot_S128x128_S128x128_S128x128_1_1_0_0_n_n none q k (constant S128x128 .f32 0x00000000#32))
    (broadcast S128x128 (Named.named Cert.KernelIdeal.κ "scale" 0x3DB504F3#32)))
    (extractStridedSlice S128x128 ![0, 128] b slices_S128x256_o0_128_S128x128)

def mxN (s : FVec Ideal S128x128 .f32) : FVec Ideal S128x1 .f32 :=
  shapeCast S128x1 (multiReduction .maximumf [1] S128 s 0xFF800000#32 reduces_S128x128_S128 (.inl rfl) rfl) shapeCasts_S128_S128x1

def wtN (s : FVec Ideal S128x128 .f32) : FVec Ideal S128x128 .f32 :=
  exp (subf s (broadcastTo S128x128 (mxN s) broadcasts_S128x1_S128x128))

def denN (s : FVec Ideal S128x128 .f32) : FVec Ideal S128x1 .f32 :=
  shapeCast S128x1 (multiReduction .add [1] S128 (wtN s) 0x00000000#32 reduces_S128x128_S128 (.inl rfl) rfl) shapeCasts_S128_S128x1

def oN (s : FVec Ideal S128x128 .f32) (v : FVec Ideal S128x128 .bf16) : FVec Ideal S128x128 .f32 :=
  shapeCast S128x128 (mulf (matmul dot_S128x128_S128x128_S128x128_1_0_0_1_n_n none (truncf .bf16 (wtN s) bitsLt_bf16_f32) v
    (constant S128x128 .f32 0x00000000#32))
    (broadcastTo S128x128 (divf (broadcast S128x1 (Scalar.ofBits .f32 0x3F800000#32)) (denN s)) broadcasts_S128x1_S128x128))
    shapeCasts_S128x128_S128x128

def lN (s : FVec Ideal S128x128 .f32) : FVec Ideal S128x128 .f32 :=
  shapeCast S128x128 (broadcastTo S128x128 (shapeCast S128x1 (addf (mxN s) (log (denN s))) shapeCasts_S128x1_S128x1)
    broadcasts_S128x1_S128x128) shapeCasts_S128x128_S128x128

/-! ## Their rows -/

theorem lgW_apply (b : FVec Ideal S128x256 .f32) (q : FVec Ideal S128x128 .bf16) (k : FVec Ideal S256x128 .bf16) (i : Fin 128) (j : Fin 256) :
    lgW b q k (ix2 i j) = (∑ c : Fin 128, q (ix2 i c) * k (ix2 j c)) * scale + b (ix2 i j) := by
  pointwise! [lgW]

theorem lgN_apply (b : FVec Ideal S128x256 .f32) (q : FVec Ideal S128x128 .bf16) (k : FVec Ideal S128x128 .bf16) (i j : Fin 128) :
    lgN b q k (ix2 i j) = (∑ c : Fin 128, q (ix2 i c) * k (ix2 j c)) * scale + b (ix2 i ⟨128 + j, by omega⟩) := by
  pointwise! [lgN]

theorem oW_row (s : FVec Ideal S128x256 .f32) (v : FVec Ideal S256x128 .bf16) (i c : Fin 128) :
    oW s v (ix2 i c) = rowO (fun j => s (ix2 i j)) fun j => v (ix2 j c) := by
  pointwise! [oW, denW, wtW, mxW]

theorem oN_row (s : FVec Ideal S128x128 .f32) (v : FVec Ideal S128x128 .bf16) (i c : Fin 128) :
    oN s v (ix2 i c) = rowO (fun j => s (ix2 i j)) fun j => v (ix2 j c) := by
  pointwise! [oN, denN, wtN, mxN]

theorem lW_row (s : FVec Ideal S128x256 .f32) (i c : Fin 128) : lW s (ix2 i c) = rowL fun j => s (ix2 i j) := by
  pointwise! [lW, denW, wtW, mxW]

theorem lN_row (s : FVec Ideal S128x128 .f32) (i c : Fin 128) : lN s (ix2 i c) = rowL fun j => s (ix2 i j) := by
  pointwise! [lN, denN, wtN, mxN]

end Cert.Dil
-- ==== Proof.Group.lean ====
/- One head group of the dilated attention for one batch and head: the row of logits of the token `d·(128·n + i) + r`
   (subsequence `r` of dilation `d`, block `n`, query `i`), over the 128 keys of the block before and the 128 of its
   own. What a block of the kernel leaves is this row's attention. -/
module

public import proofs.«01_k».proof.Proof.Block
public import Idealize.ShloMosaic.Lib.Pipeline.FrameBody
public import Idealize.ShloMosaic.Lib.Pipeline.Value
public import Idealize.ShloMosaic.Lib.WholeRead

@[expose] public section

set_option maxRecDepth 16384

noncomputable section

namespace Cert.Dil

open Idealize.ShloMosaic Cert.KernelIdeal Cert.KernelIdeal.Gen

/-- Row `t` of a block of tokens. -/
def tok (x : S2048x128.Idx → EReal) (t : Nat) (c : Fin 128) : EReal := if h : t < 2048 then x (ix2 ⟨t, h⟩ c) else 0

/-- The logits: −∞ where the first block has no key. -/
def lgs (d : Nat) (B : S128x256.Idx → EReal) (xq xk : S2048x128.Idx → EReal) (r n : Nat) (i : Fin 128) (j : Fin 256) : EReal :=
  if n = 0 ∧ j.val < 128 then ⊥
  else (∑ c : Fin 128, tok xq (d * (128 * n + i) + r) c * tok xk (d * (128 * n + j - 128) + r) c) * scale + B (ix2 i j)

/-- The values: 0 where the first block has no key. -/
def vls (d : Nat) (xv : S2048x128.Idx → EReal) (r n : Nat) (c : Fin 128) (j : Fin 256) : EReal :=
  if n = 0 ∧ j.val < 128 then 0 else tok xv (d * (128 * n + j - 128) + r) c

/-- The group's output at a token and a lane. -/
def gO (d : Nat) (B : S128x256.Idx → EReal) (xq xk xv : S2048x128.Idx → EReal) (t : Nat) (c : Fin 128) : EReal :=
  rowO (lgs d B xq xk (t % d) (t / d / 128) ⟨t / d % 128, Nat.mod_lt _ (by omega)⟩) (vls d xv (t % d) (t / d / 128) c)

/-- The group's log-sum-exp at a token. -/
def gL (d : Nat) (B : S128x256.Idx → EReal) (xq xk : S2048x128.Idx → EReal) (t : Nat) : EReal :=
  rowL (lgs d B xq xk (t % d) (t / d / 128) ⟨t / d % 128, Nat.mod_lt _ (by omega)⟩)

theorem split_tok (d r n : Nat) (hr : r < d) (i : Fin 128) :
    (d * (128 * n + i) + r) % d = r ∧ (d * (128 * n + i) + r) / d / 128 = n ∧ (d * (128 * n + i) + r) / d % 128 = i := by
  have h : (d * (128 * n + i) + r) / d = 128 * n + i := by
    rw [Nat.mul_add_div (by omega), Nat.div_eq_of_lt hr, Nat.add_zero]
  refine ⟨by rw [Nat.mul_add_mod]; exact Nat.mod_eq_of_lt hr, ?_, ?_⟩ <;> rw [h] <;> omega

theorem gO_at (d : Nat) (B : S128x256.Idx → EReal) (xq xk xv : S2048x128.Idx → EReal) (r n : Nat) (hr : r < d) (i c : Fin 128) :
    gO d B xq xk xv (d * (128 * n + i) + r) c = rowO (lgs d B xq xk r n i) (vls d xv r n c) := by
  obtain ⟨h1, h2, h3⟩ := split_tok d r n hr i
  unfold gO
  simp only [h1, h2, h3, Fin.eta]

theorem gL_at (d : Nat) (B : S128x256.Idx → EReal) (xq xk : S2048x128.Idx → EReal) (r n : Nat) (hr : r < d) (i : Fin 128) :
    gL d B xq xk (d * (128 * n + i) + r) = rowL (lgs d B xq xk r n i) := by
  obtain ⟨h1, h2, h3⟩ := split_tok d r n hr i
  unfold gL
  simp only [h1, h2, h3, Fin.eta]

/-! ## Rows of the tokens -/

/-- `x` holds the rows `d·(a + i) + r` of the tokens `X`. -/
def Rows (d r a : Nat) {N : Nat} (x : (⟨2, ![N, 128]⟩ : Shape).Idx → EReal) (X : S2048x128.Idx → EReal) : Prop :=
  ∀ (i : Fin N) (c : Fin 128), x (ix2 i c) = tok X (d * (a + i) + r) c

theorem Rows.cut {d r a N M : Nat} {x : (⟨2, ![N, 128]⟩ : Shape).Idx → EReal} {X : S2048x128.Idx → EReal} (hx : Rows d r 0 x X)
    (h : (⟨2, ![N, 128]⟩ : Shape).Slices ![a, 0] ⟨2, ![M, 128]⟩) :
    Rows d r a (extractStridedSlice ⟨2, ![M, 128]⟩ ![a, 0] x h) X := by
  intro i c
  have hb : a + i.val < N := by
    have := h.2 0
    simp at this
    omega
  have e : extractStridedSlice ⟨2, ![M, 128]⟩ ![a, 0] x h (ix2 i c) = x (ix2 ⟨a + i.val, hb⟩ c) := by
    unfold extractStridedSlice
    congr 1
    funext z
    fin_cases z <;> apply Fin.ext <;> simp
  rw [e, hx]
  simp

theorem Rows.load {m : Memref sig .tc .vmem S2048x128 .f32} (hm : m.IsWhole) (X : Vec Ideal S2048x128 .f32) {N : Nat}
    {o st : Fin 2 → Nat} {inb} (h1 : o 1 = 0) (s1 : st 1 = 1) :
    Rows (st 0) (o 0) 0 (N := N) (View.readAt (Elt Ideal) m.view (LoadRect.mk (s := S2048x128) o ![N, 128] st inb) (hm.unread X)) X := by
  intro i c
  rw [Memref.IsWhole.readAt_unread]
  have hb : st 0 * (0 + i.val) + o 0 < 2048 := by
    have hi := i.isLt
    have h := (inb 0).resolve_left (show N ≠ 0 by omega)
    have h' : o 0 + st 0 * (N - 1) < 2048 := h
    have := Nat.mul_le_mul_left (st 0) (show i.val ≤ N - 1 by omega)
    rw [Nat.zero_add]; omega
  rw [tok, dif_pos hb]
  congr 1
  funext z
  fin_cases z <;> apply Fin.ext
  · show o 0 + st 0 * i.val = st 0 * (0 + i.val) + o 0
    rw [Nat.zero_add, Nat.add_comm]
  · show o 1 + st 1 * c.val = c.val
    rw [h1, s1]; omega

/-! ## A block's results are the rows' -/

section Blocks

variable {d r n : Nat} {B : FVec Ideal S128x256 .f32} {xq xk xv : S2048x128.Idx → EReal} {q : FVec Ideal S128x128 .bf16}
  {k v : FVec Ideal S256x128 .bf16} {k' v' : FVec Ideal S128x128 .bf16}

theorem wide_lgs (hn : n ≠ 0) (hq : Rows d r (128 * n) q xq)
    (hk : Rows d r (128 * (n - 1)) k xk) (i : Fin 128) :
    (fun j => lgW B q k (ix2 i j)) = lgs d B xq xk r n i := by
  funext j
  rw [lgW_apply, lgs, if_neg (fun h => hn h.1)]
  have e : 128 * (n - 1) + j.val = 128 * n + j.val - 128 := by omega
  simp only [hq i, hk j, e]

theorem wide_vls (hn : n ≠ 0) (hv : Rows d r (128 * (n - 1)) v xv) (c : Fin 128) :
    (fun j => v (ix2 j c)) = vls d xv r n c := by
  funext j
  have e : 128 * (n - 1) + j.val = 128 * n + j.val - 128 := by omega
  rw [vls, if_neg (fun h => hn h.1), hv, e]

theorem wide_o (hn : n ≠ 0) (hq : Rows d r (128 * n) q xq)
    (hk : Rows d r (128 * (n - 1)) k xk)
    (hv : Rows d r (128 * (n - 1)) v xv) (i c : Fin 128) :
    oW (lgW B q k) v (ix2 i c) = rowO (lgs d B xq xk r n i) (vls d xv r n c) := by
  rw [oW_row, wide_lgs hn hq hk, wide_vls hn hv]

theorem wide_l (hn : n ≠ 0) (hq : Rows d r (128 * n) q xq)
    (hk : Rows d r (128 * (n - 1)) k xk) (i c : Fin 128) :
    lW (lgW B q k) (ix2 i c) = rowL (lgs d B xq xk r n i) := by
  rw [lW_row, wide_lgs hn hq hk]

theorem first_lgs (hq : Rows d r 0 q xq)
    (hk : Rows d r 0 k' xk) (i : Fin 128) :
    (fun j : Fin 128 => lgN B q k' (ix2 i j)) = fun j : Fin 128 => lgs d B xq xk r 0 i ⟨128 + j.val, by omega⟩ := by
  funext j
  rw [lgN_apply, lgs, if_neg (by simp)]
  simp only [hq i, hk j, Nat.mul_zero, Nat.zero_add, Nat.add_sub_cancel_left]

theorem first_o (hq : Rows d r 0 q xq)
    (hk : Rows d r 0 k' xk)
    (hv : Rows d r 0 v' xv) (i c : Fin 128) :
    oN (lgN B q k') v' (ix2 i c) = rowO (lgs d B xq xk r 0 i) (vls d xv r 0 c) := by
  rw [oN_row, first_lgs hq hk, rowO_halves (s := lgs d B xq xk r 0 i) fun j hj => if_pos ⟨rfl, hj⟩]
  congr 1; funext j
  rw [hv, vls, if_neg (by simp)]
  simp only [Nat.mul_zero, Nat.zero_add, Nat.add_sub_cancel_left]

theorem first_l (hq : Rows d r 0 q xq)
    (hk : Rows d r 0 k' xk) (i c : Fin 128) :
    lN (lgN B q k') (ix2 i c) = rowL (lgs d B xq xk r 0 i) := by
  rw [lN_row, first_lgs hq hk, rowL_halves (s := lgs d B xq xk r 0 i) fun j hj => if_pos ⟨rfl, hj⟩]

end Blocks

/-! ## A store of 128 rows, `d` apart, from token `d·(128·n) + r` -/

theorem store_emb {o st : Fin 2 → Nat} {inb sp} {d r n : Nat} (h0 : o 0 = d * (128 * n) + r) (h1 : o 1 = 0) (s0 : st 0 = d) (s1 : st 1 = 1)
    (i c : Fin 128) :
    ((Rect.mk (s := S2048x128) (LoadRect.mk o S128x128.size st inb) sp).emb (ix2 i c) 0).val = d * (128 * n + i) + r
      ∧ (Rect.mk (s := S2048x128) (LoadRect.mk o S128x128.size st inb) sp).emb (ix2 i c) 1 = c := by
  constructor
  · show o 0 + st 0 * i.val = _
    rw [h0, s0]; ring
  · apply Fin.ext
    show o 1 + st 1 * c.val = _
    rw [h1, s1]; omega

theorem store_o {o st : Fin 2 → Nat} {inb sp} {d r n : Nat} {B : FVec Ideal S128x256 .f32} {xq xk xv : S2048x128.Idx → EReal}
    (hr : r < d) (h0 : o 0 = d * (128 * n) + r) (h1 : o 1 = 0) (s0 : st 0 = d) (s1 : st 1 = 1) {w : S128x128.Idx → EReal}
    (hw : ∀ i c : Fin 128, w (ix2 i c) = rowO (lgs d B xq xk r n i) (vls d xv r n c)) (x : S128x128.Idx) :
    w x = gO d B xq xk xv ((Rect.mk (s := S2048x128) (LoadRect.mk o S128x128.size st inb) sp).emb x 0).val
      ((Rect.mk (s := S2048x128) (LoadRect.mk o S128x128.size st inb) sp).emb x 1) := by
  obtain ⟨i, c, rfl⟩ : ∃ i c : Fin 128, x = ix2 i c := ⟨x 0, x 1, eq_ix2 x⟩
  obtain ⟨e0, e1⟩ := store_emb (inb := inb) (sp := sp) h0 h1 s0 s1 i c
  rw [e0, e1, hw, gO_at _ _ _ _ _ _ _ hr]

theorem store_l {o st : Fin 2 → Nat} {inb sp} {d r n : Nat} {B : FVec Ideal S128x256 .f32} {xq xk : S2048x128.Idx → EReal}
    (hr : r < d) (h0 : o 0 = d * (128 * n) + r) (h1 : o 1 = 0) (s0 : st 0 = d) (s1 : st 1 = 1) {w : S128x128.Idx → EReal}
    (hw : ∀ i c : Fin 128, w (ix2 i c) = rowL (lgs d B xq xk r n i)) (x : S128x128.Idx) :
    w x = gL d B xq xk ((Rect.mk (s := S2048x128) (LoadRect.mk o S128x128.size st inb) sp).emb x 0).val := by
  obtain ⟨i, c, rfl⟩ : ∃ i c : Fin 128, x = ix2 i c := ⟨x 0, x 1, eq_ix2 x⟩
  obtain ⟨e0, -⟩ := store_emb (inb := inb) (sp := sp) h0 h1 s0 s1 i c
  rw [e0, hw, gL_at _ _ _ _ _ _ hr]

end Cert.Dil
-- ==== Proof.Pieces.lean ====
/- What the kernel's stores leave in its six scratch buffers: every store of a group is one block of it. -/
module

public import proofs.«01_k».proof.Proof.Gen.KernelIdeal.Frame
public import proofs.«01_k».proof.Proof.Group

@[expose] public section

set_option maxRecDepth 16384

noncomputable section

namespace Cert.Dil

open Idealize.ShloMosaic Cert.KernelIdeal Cert.KernelIdeal.Gen Cert.KernelIdeal.Gen.kernelRun0_A

theorem cut_ok (N M a : Nat) (h : a + M ≤ N) : (⟨2, ![N, 128]⟩ : Shape).Slices ![a, 0] ⟨2, ![M, 128]⟩ :=
  ⟨rfl, fun z => by fin_cases z <;> simp <;> omega⟩

variable {c : Dev nD} {i : grid0.Coords} {arg2 : Memref sig .tc .smem S32x24 .f32} {harg2 : arg2.IsWhole}
  {arg3 : Memref sig .tc .vmem S3x128x256 .i32} {harg3 : arg3.IsWhole}
  {x0 : Vec Ideal S32x24 .f32} {x1 : Vec Ideal S3x128x256 .i32}
  {mq mk mv : Memref sig .tc .vmem S2048x128 .f32} {hq : mq.IsWhole} {hk : mk.IsWhole} {hv : mv.IsWhole}
  {xq xk xv : Vec Ideal S2048x128 .f32} {B : FVec Ideal S128x256 .f32}
  {o st : Fin 2 → Nat} {inb : ∀ a, S128x128.size a = 0 ∨ o a + st a * (S128x128.size a - 1) < S2048x128.size a}
  {sp : ∀ a, 0 < st a}

/-- The store's rows: `d` apart from the first of block `n`, all lanes. -/
structure StoresAt (o st : Fin 2 → Nat) (d r n : Nat) : Prop where
  row : o 0 = d * (128 * n) + r
  lane : o 1 = 0
  apart : st 0 = d
  lanes : st 1 = 1

/-! ## Dilation 1 -/

theorem load_inb0 (r : Nat) (hr : r < 1) (a : Fin 2) : S2048x128.size a = 0 ∨ (![0, 0] : Fin 2 → Nat) a + (fun _ => 1 : Fin 2 → Nat) a * (S2048x128.size a - 1) < S2048x128.size a := by
  right; fin_cases a <;> simp [S2048x128, S2048x128] <;> omega

/-- Subsequence `r` of the tokens a buffer holds. -/
def sub0 (m : Memref sig .tc .vmem S2048x128 .f32) (hm : m.IsWhole) (X : Vec Ideal S2048x128 .f32) (r : Nat) (hr : r < 1) : FVec Ideal S2048x128 .bf16 :=
  truncf .bf16 (View.readAt (Elt Ideal) m.view (LoadRect.mk (s := S2048x128) ![0, 0] S2048x128.size (fun _ => 1) (load_inb0 r hr)) (hm.unread X)) bitsLt_bf16_f32

theorem sub0_rows (m : Memref sig .tc .vmem S2048x128 .f32) (hm : m.IsWhole) (X : Vec Ideal S2048x128 .f32) (r : Nat) (hr : r < 1) :
    Rows 1 r 0 (sub0 m hm X r hr) X := by
  obtain rfl : r = 0 := by omega
  exact Rows.load hm X rfl rfl

theorem start0_o (r : Nat) (hr : r < 1) (h : StoresAt o st 1 r 0) (x : S128x128.Idx) :
    oN (lgN B (extractStridedSlice S128x128 ![0, 0] (sub0 mq hq xq r hr) (cut_ok 2048 128 (0) (by omega))) (extractStridedSlice S128x128 ![0, 0] (sub0 mk hk xk r hr) (cut_ok 2048 128 (0) (by omega))))
      (extractStridedSlice S128x128 ![0, 0] (sub0 mv hv xv r hr) (cut_ok 2048 128 (0) (by omega))) x
      = gO 1 B xq xk xv ((Rect.mk (s := S2048x128) (LoadRect.mk o S128x128.size st inb) sp).emb x 0).val ((Rect.mk (s := S2048x128) (LoadRect.mk o S128x128.size st inb) sp).emb x 1) :=
  store_o hr h.row h.lane h.apart h.lanes (first_o ((sub0_rows mq hq xq r hr).cut _) ((sub0_rows mk hk xk r hr).cut _) ((sub0_rows mv hv xv r hr).cut _)) x

theorem start0_l (r : Nat) (hr : r < 1) (h : StoresAt o st 1 r 0) (x : S128x128.Idx) :
    lN (lgN B (extractStridedSlice S128x128 ![0, 0] (sub0 mq hq xq r hr) (cut_ok 2048 128 (0) (by omega))) (extractStridedSlice S128x128 ![0, 0] (sub0 mk hk xk r hr) (cut_ok 2048 128 (0) (by omega)))) x
      = gL 1 B xq xk ((Rect.mk (s := S2048x128) (LoadRect.mk o S128x128.size st inb) sp).emb x 0).val :=
  store_l hr h.row h.lane h.apart h.lanes (first_l ((sub0_rows mq hq xq r hr).cut _) ((sub0_rows mk hk xk r hr).cut _)) x

theorem later0_o (r n : Nat) (hr : r < 1) (hn : n ≠ 0 ∧ n < 16) (h : StoresAt o st 1 r n) (x : S128x128.Idx) :
    oW (lgW B (extractStridedSlice S128x128 ![128 * n, 0] (sub0 mq hq xq r hr) (cut_ok 2048 128 (128 * n) (by omega))) (extractStridedSlice S256x128 ![128 * (n - 1), 0] (sub0 mk hk xk r hr) (cut_ok 2048 256 (128 * (n - 1)) (by omega))))
      (extractStridedSlice S256x128 ![128 * (n - 1), 0] (sub0 mv hv xv r hr) (cut_ok 2048 256 (128 * (n - 1)) (by omega))) x
      = gO 1 B xq xk xv ((Rect.mk (s := S2048x128) (LoadRect.mk o S128x128.size st inb) sp).emb x 0).val ((Rect.mk (s := S2048x128) (LoadRect.mk o S128x128.size st inb) sp).emb x 1) :=
  store_o hr h.row h.lane h.apart h.lanes (wide_o hn.1 ((sub0_rows mq hq xq r hr).cut _) ((sub0_rows mk hk xk r hr).cut _) ((sub0_rows mv hv xv r hr).cut _)) x

theorem later0_l (r n : Nat) (hr : r < 1) (hn : n ≠ 0 ∧ n < 16) (h : StoresAt o st 1 r n) (x : S128x128.Idx) :
    lW (lgW B (extractStridedSlice S128x128 ![128 * n, 0] (sub0 mq hq xq r hr) (cut_ok 2048 128 (128 * n) (by omega))) (extractStridedSlice S256x128 ![128 * (n - 1), 0] (sub0 mk hk xk r hr) (cut_ok 2048 256 (128 * (n - 1)) (by omega)))) x
      = gL 1 B xq xk ((Rect.mk (s := S2048x128) (LoadRect.mk o S128x128.size st inb) sp).emb x 0).val :=
  store_l hr h.row h.lane h.apart h.lanes (wide_l hn.1 ((sub0_rows mq hq xq r hr).cut _) ((sub0_rows mk hk xk r hr).cut _)) x

/-! ## Dilation 4 -/

theorem load_inb1 (r : Nat) (hr : r < 4) (a : Fin 2) : S512x128.size a = 0 ∨ (![r, 0] : Fin 2 → Nat) a + (![4, 1] : Fin 2 → Nat) a * (S512x128.size a - 1) < S2048x128.size a := by
  right; fin_cases a <;> simp [S512x128, S2048x128] <;> omega

/-- Subsequence `r` of the tokens a buffer holds. -/
def sub1 (m : Memref sig .tc .vmem S2048x128 .f32) (hm : m.IsWhole) (X : Vec Ideal S2048x128 .f32) (r : Nat) (hr : r < 4) : FVec Ideal S512x128 .bf16 :=
  truncf .bf16 (View.readAt (Elt Ideal) m.view (LoadRect.mk (s := S2048x128) ![r, 0] S512x128.size ![4, 1] (load_inb1 r hr)) (hm.unread X)) bitsLt_bf16_f32

theorem sub1_rows (m : Memref sig .tc .vmem S2048x128 .f32) (hm : m.IsWhole) (X : Vec Ideal S2048x128 .f32) (r : Nat) (hr : r < 4) :
    Rows 4 r 0 (sub1 m hm X r hr) X := Rows.load hm X rfl rfl

theorem start1_o (r : Nat) (hr : r < 4) (h : StoresAt o st 4 r 0) (x : S128x128.Idx) :
    oN (lgN B (extractStridedSlice S128x128 ![0, 0] (sub1 mq hq xq r hr) (cut_ok 512 128 (0) (by omega))) (extractStridedSlice S128x128 ![0, 0] (sub1 mk hk xk r hr) (cut_ok 512 128 (0) (by omega))))
      (extractStridedSlice S128x128 ![0, 0] (sub1 mv hv xv r hr) (cut_ok 512 128 (0) (by omega))) x
      = gO 4 B xq xk xv ((Rect.mk (s := S2048x128) (LoadRect.mk o S128x128.size st inb) sp).emb x 0).val ((Rect.mk (s := S2048x128) (LoadRect.mk o S128x128.size st inb) sp).emb x 1) :=
  store_o hr h.row h.lane h.apart h.lanes (first_o ((sub1_rows mq hq xq r hr).cut _) ((sub1_rows mk hk xk r hr).cut _) ((sub1_rows mv hv xv r hr).cut _)) x

theorem start1_l (r : Nat) (hr : r < 4) (h : StoresAt o st 4 r 0) (x : S128x128.Idx) :
    lN (lgN B (extractStridedSlice S128x128 ![0, 0] (sub1 mq hq xq r hr) (cut_ok 512 128 (0) (by omega))) (extractStridedSlice S128x128 ![0, 0] (sub1 mk hk xk r hr) (cut_ok 512 128 (0) (by omega)))) x
      = gL 4 B xq xk ((Rect.mk (s := S2048x128) (LoadRect.mk o S128x128.size st inb) sp).emb x 0).val :=
  store_l hr h.row h.lane h.apart h.lanes (first_l ((sub1_rows mq hq xq r hr).cut _) ((sub1_rows mk hk xk r hr).cut _)) x

theorem later1_o (r n : Nat) (hr : r < 4) (hn : n ≠ 0 ∧ n < 4) (h : StoresAt o st 4 r n) (x : S128x128.Idx) :
    oW (lgW B (extractStridedSlice S128x128 ![128 * n, 0] (sub1 mq hq xq r hr) (cut_ok 512 128 (128 * n) (by omega))) (extractStridedSlice S256x128 ![128 * (n - 1), 0] (sub1 mk hk xk r hr) (cut_ok 512 256 (128 * (n - 1)) (by omega))))
      (extractStridedSlice S256x128 ![128 * (n - 1), 0] (sub1 mv hv xv r hr) (cut_ok 512 256 (128 * (n - 1)) (by omega))) x
      = gO 4 B xq xk xv ((Rect.mk (s := S2048x128) (LoadRect.mk o S128x128.size st inb) sp).emb x 0).val ((Rect.mk (s := S2048x128) (LoadRect.mk o S128x128.size st inb) sp).emb x 1) :=
  store_o hr h.row h.lane h.apart h.lanes (wide_o hn.1 ((sub1_rows mq hq xq r hr).cut _) ((sub1_rows mk hk xk r hr).cut _) ((sub1_rows mv hv xv r hr).cut _)) x

theorem later1_l (r n : Nat) (hr : r < 4) (hn : n ≠ 0 ∧ n < 4) (h : StoresAt o st 4 r n) (x : S128x128.Idx) :
    lW (lgW B (extractStridedSlice S128x128 ![128 * n, 0] (sub1 mq hq xq r hr) (cut_ok 512 128 (128 * n) (by omega))) (extractStridedSlice S256x128 ![128 * (n - 1), 0] (sub1 mk hk xk r hr) (cut_ok 512 256 (128 * (n - 1)) (by omega)))) x
      = gL 4 B xq xk ((Rect.mk (s := S2048x128) (LoadRect.mk o S128x128.size st inb) sp).emb x 0).val :=
  store_l hr h.row h.lane h.apart h.lanes (wide_l hn.1 ((sub1_rows mq hq xq r hr).cut _) ((sub1_rows mk hk xk r hr).cut _)) x

/-! ## Dilation 16 -/

theorem load_inb2 (r : Nat) (hr : r < 16) (a : Fin 2) : S128x128.size a = 0 ∨ (![r, 0] : Fin 2 → Nat) a + (![16, 1] : Fin 2 → Nat) a * (S128x128.size a - 1) < S2048x128.size a := by
  right; fin_cases a <;> simp [S128x128, S2048x128] <;> omega

/-- Subsequence `r` of the tokens a buffer holds. -/
def sub2 (m : Memref sig .tc .vmem S2048x128 .f32) (hm : m.IsWhole) (X : Vec Ideal S2048x128 .f32) (r : Nat) (hr : r < 16) : FVec Ideal S128x128 .bf16 :=
  truncf .bf16 (View.readAt (Elt Ideal) m.view (LoadRect.mk (s := S2048x128) ![r, 0] S128x128.size ![16, 1] (load_inb2 r hr)) (hm.unread X)) bitsLt_bf16_f32

theorem sub2_rows (m : Memref sig .tc .vmem S2048x128 .f32) (hm : m.IsWhole) (X : Vec Ideal S2048x128 .f32) (r : Nat) (hr : r < 16) :
    Rows 16 r 0 (sub2 m hm X r hr) X := Rows.load hm X rfl rfl

theorem start2_o (r : Nat) (hr : r < 16) (h : StoresAt o st 16 r 0) (x : S128x128.Idx) :
    oN (lgN B (sub2 mq hq xq r hr) (sub2 mk hk xk r hr))
      (sub2 mv hv xv r hr) x
      = gO 16 B xq xk xv ((Rect.mk (s := S2048x128) (LoadRect.mk o S128x128.size st inb) sp).emb x 0).val ((Rect.mk (s := S2048x128) (LoadRect.mk o S128x128.size st inb) sp).emb x 1) :=
  store_o hr h.row h.lane h.apart h.lanes (first_o (sub2_rows mq hq xq r hr) (sub2_rows mk hk xk r hr) (sub2_rows mv hv xv r hr)) x

theorem start2_l (r : Nat) (hr : r < 16) (h : StoresAt o st 16 r 0) (x : S128x128.Idx) :
    lN (lgN B (sub2 mq hq xq r hr) (sub2 mk hk xk r hr)) x
      = gL 16 B xq xk ((Rect.mk (s := S2048x128) (LoadRect.mk o S128x128.size st inb) sp).emb x 0).val :=
  store_l hr h.row h.lane h.apart h.lanes (first_l (sub2_rows mq hq xq r hr) (sub2_rows mk hk xk r hr)) x

/-! ## The six buffers -/

theorem stores0_o : ∀ p ∈ sl.HS0_16 (F := Ideal) c i arg2 harg2 arg3 harg3 mq hq mk hk mv hv x0 x1 xq xk xv, ∀ x : p.1.shape.Idx,
    p.2 x = gO 1 (sl.r_34 c i arg2 harg2 arg3 harg3 x0 x1) xq xk xv (p.1.emb x 0).val (p.1.emb x 1) := by
  unfold sl.HS0_16
  simp only [List.forall_mem_cons]
  exact ⟨later0_o 0 15 (by decide) (by decide) ⟨rfl, rfl, rfl, rfl⟩,
    later0_o 0 14 (by decide) (by decide) ⟨rfl, rfl, rfl, rfl⟩,
    later0_o 0 13 (by decide) (by decide) ⟨rfl, rfl, rfl, rfl⟩,
    later0_o 0 12 (by decide) (by decide) ⟨rfl, rfl, rfl, rfl⟩,
    later0_o 0 11 (by decide) (by decide) ⟨rfl, rfl, rfl, rfl⟩,
    later0_o 0 10 (by decide) (by decide) ⟨rfl, rfl, rfl, rfl⟩,
    later0_o 0 9 (by decide) (by decide) ⟨rfl, rfl, rfl, rfl⟩,
    later0_o 0 8 (by decide) (by decide) ⟨rfl, rfl, rfl, rfl⟩,
    later0_o 0 7 (by decide) (by decide) ⟨rfl, rfl, rfl, rfl⟩,
    later0_o 0 6 (by decide) (by decide) ⟨rfl, rfl, rfl, rfl⟩,
    later0_o 0 5 (by decide) (by decide) ⟨rfl, rfl, rfl, rfl⟩,
    later0_o 0 4 (by decide) (by decide) ⟨rfl, rfl, rfl, rfl⟩,
    later0_o 0 3 (by decide) (by decide) ⟨rfl, rfl, rfl, rfl⟩,
    later0_o 0 2 (by decide) (by decide) ⟨rfl, rfl, rfl, rfl⟩,
    later0_o 0 1 (by decide) (by decide) ⟨rfl, rfl, rfl, rfl⟩,
    start0_o 0 (by decide) ⟨rfl, rfl, rfl, rfl⟩, fun _ h => absurd h List.not_mem_nil⟩

theorem stores0_l : ∀ p ∈ sl.HS3_16 (F := Ideal) c i arg2 harg2 arg3 harg3 mq hq mk hk x0 x1 xq xk, ∀ x : p.1.shape.Idx,
    p.2 x = gL 1 (sl.r_34 c i arg2 harg2 arg3 harg3 x0 x1) xq xk (p.1.emb x 0).val := by
  unfold sl.HS3_16
  simp only [List.forall_mem_cons]
  exact ⟨later0_l 0 15 (by decide) (by decide) ⟨rfl, rfl, rfl, rfl⟩,
    later0_l 0 14 (by decide) (by decide) ⟨rfl, rfl, rfl, rfl⟩,
    later0_l 0 13 (by decide) (by decide) ⟨rfl, rfl, rfl, rfl⟩,
    later0_l 0 12 (by decide) (by decide) ⟨rfl, rfl, rfl, rfl⟩,
    later0_l 0 11 (by decide) (by decide) ⟨rfl, rfl, rfl, rfl⟩,
    later0_l 0 10 (by decide) (by decide) ⟨rfl, rfl, rfl, rfl⟩,
    later0_l 0 9 (by decide) (by decide) ⟨rfl, rfl, rfl, rfl⟩,
    later0_l 0 8 (by decide) (by decide) ⟨rfl, rfl, rfl, rfl⟩,
    later0_l 0 7 (by decide) (by decide) ⟨rfl, rfl, rfl, rfl⟩,
    later0_l 0 6 (by decide) (by decide) ⟨rfl, rfl, rfl, rfl⟩,
    later0_l 0 5 (by decide) (by decide) ⟨rfl, rfl, rfl, rfl⟩,
    later0_l 0 4 (by decide) (by decide) ⟨rfl, rfl, rfl, rfl⟩,
    later0_l 0 3 (by decide) (by decide) ⟨rfl, rfl, rfl, rfl⟩,
    later0_l 0 2 (by decide) (by decide) ⟨rfl, rfl, rfl, rfl⟩,
    later0_l 0 1 (by decide) (by decide) ⟨rfl, rfl, rfl, rfl⟩,
    start0_l 0 (by decide) ⟨rfl, rfl, rfl, rfl⟩, fun _ h => absurd h List.not_mem_nil⟩

theorem stores1_o : ∀ p ∈ sl.HS1_16 (F := Ideal) c i arg2 harg2 arg3 harg3 mq hq mk hk mv hv x0 x1 xq xk xv, ∀ x : p.1.shape.Idx,
    p.2 x = gO 4 (sl.r_97 c i arg2 harg2 arg3 harg3 x0 x1) xq xk xv (p.1.emb x 0).val (p.1.emb x 1) := by
  unfold sl.HS1_16
  simp only [List.forall_mem_cons]
  exact ⟨later1_o 3 3 (by decide) (by decide) ⟨rfl, rfl, rfl, rfl⟩,
    later1_o 3 2 (by decide) (by decide) ⟨rfl, rfl, rfl, rfl⟩,
    later1_o 3 1 (by decide) (by decide) ⟨rfl, rfl, rfl, rfl⟩,
    start1_o 3 (by decide) ⟨rfl, rfl, rfl, rfl⟩,
    later1_o 2 3 (by decide) (by decide) ⟨rfl, rfl, rfl, rfl⟩,
    later1_o 2 2 (by decide) (by decide) ⟨rfl, rfl, rfl, rfl⟩,
    later1_o 2 1 (by decide) (by decide) ⟨rfl, rfl, rfl, rfl⟩,
    start1_o 2 (by decide) ⟨rfl, rfl, rfl, rfl⟩,
    later1_o 1 3 (by decide) (by decide) ⟨rfl, rfl, rfl, rfl⟩,
    later1_o 1 2 (by decide) (by decide) ⟨rfl, rfl, rfl, rfl⟩,
    later1_o 1 1 (by decide) (by decide) ⟨rfl, rfl, rfl, rfl⟩,
    start1_o 1 (by decide) ⟨rfl, rfl, rfl, rfl⟩,
    later1_o 0 3 (by decide) (by decide) ⟨rfl, rfl, rfl, rfl⟩,
    later1_o 0 2 (by decide) (by decide) ⟨rfl, rfl, rfl, rfl⟩,
    later1_o 0 1 (by decide) (by decide) ⟨rfl, rfl, rfl, rfl⟩,
    start1_o 0 (by decide) ⟨rfl, rfl, rfl, rfl⟩, fun _ h => absurd h List.not_mem_nil⟩

theorem stores1_l : ∀ p ∈ sl.HS4_16 (F := Ideal) c i arg2 harg2 arg3 harg3 mq hq mk hk x0 x1 xq xk, ∀ x : p.1.shape.Idx,
    p.2 x = gL 4 (sl.r_97 c i arg2 harg2 arg3 harg3 x0 x1) xq xk (p.1.emb x 0).val := by
  unfold sl.HS4_16
  simp only [List.forall_mem_cons]
  exact ⟨later1_l 3 3 (by decide) (by decide) ⟨rfl, rfl, rfl, rfl⟩,
    later1_l 3 2 (by decide) (by decide) ⟨rfl, rfl, rfl, rfl⟩,
    later1_l 3 1 (by decide) (by decide) ⟨rfl, rfl, rfl, rfl⟩,
    start1_l 3 (by decide) ⟨rfl, rfl, rfl, rfl⟩,
    later1_l 2 3 (by decide) (by decide) ⟨rfl, rfl, rfl, rfl⟩,
    later1_l 2 2 (by decide) (by decide) ⟨rfl, rfl, rfl, rfl⟩,
    later1_l 2 1 (by decide) (by decide) ⟨rfl, rfl, rfl, rfl⟩,
    start1_l 2 (by decide) ⟨rfl, rfl, rfl, rfl⟩,
    later1_l 1 3 (by decide) (by decide) ⟨rfl, rfl, rfl, rfl⟩,
    later1_l 1 2 (by decide) (by decide) ⟨rfl, rfl, rfl, rfl⟩,
    later1_l 1 1 (by decide) (by decide) ⟨rfl, rfl, rfl, rfl⟩,
    start1_l 1 (by decide) ⟨rfl, rfl, rfl, rfl⟩,
    later1_l 0 3 (by decide) (by decide) ⟨rfl, rfl, rfl, rfl⟩,
    later1_l 0 2 (by decide) (by decide) ⟨rfl, rfl, rfl, rfl⟩,
    later1_l 0 1 (by decide) (by decide) ⟨rfl, rfl, rfl, rfl⟩,
    start1_l 0 (by decide) ⟨rfl, rfl, rfl, rfl⟩, fun _ h => absurd h List.not_mem_nil⟩

theorem stores2_o : ∀ p ∈ sl.HS2_16 (F := Ideal) c i arg2 harg2 arg3 harg3 mq hq mk hk mv hv x0 x1 xq xk xv, ∀ x : p.1.shape.Idx,
    p.2 x = gO 16 (sl.v1675 c i arg2 harg2 arg3 harg3 x0 x1) xq xk xv (p.1.emb x 0).val (p.1.emb x 1) := by
  unfold sl.HS2_16 sl.r_179 sl.r_180 sl.r_181 sl.cst_97 k0_pay284 k0_pay285 k0_pay286
  simp only [List.forall_mem_cons]
  exact ⟨start2_o 15 (by decide) ⟨rfl, rfl, rfl, rfl⟩,
    start2_o 14 (by decide) ⟨rfl, rfl, rfl, rfl⟩,
    start2_o 13 (by decide) ⟨rfl, rfl, rfl, rfl⟩,
    start2_o 12 (by decide) ⟨rfl, rfl, rfl, rfl⟩,
    start2_o 11 (by decide) ⟨rfl, rfl, rfl, rfl⟩,
    start2_o 10 (by decide) ⟨rfl, rfl, rfl, rfl⟩,
    start2_o 9 (by decide) ⟨rfl, rfl, rfl, rfl⟩,
    start2_o 8 (by decide) ⟨rfl, rfl, rfl, rfl⟩,
    start2_o 7 (by decide) ⟨rfl, rfl, rfl, rfl⟩,
    start2_o 6 (by decide) ⟨rfl, rfl, rfl, rfl⟩,
    start2_o 5 (by decide) ⟨rfl, rfl, rfl, rfl⟩,
    start2_o 4 (by decide) ⟨rfl, rfl, rfl, rfl⟩,
    start2_o 3 (by decide) ⟨rfl, rfl, rfl, rfl⟩,
    start2_o 2 (by decide) ⟨rfl, rfl, rfl, rfl⟩,
    start2_o 1 (by decide) ⟨rfl, rfl, rfl, rfl⟩,
    start2_o 0 (by decide) ⟨rfl, rfl, rfl, rfl⟩, fun _ h => absurd h List.not_mem_nil⟩

theorem stores2_l : ∀ p ∈ sl.HS5_16 (F := Ideal) c i arg2 harg2 arg3 harg3 mq hq mk hk x0 x1 xq xk, ∀ x : p.1.shape.Idx,
    p.2 x = gL 16 (sl.v1675 c i arg2 harg2 arg3 harg3 x0 x1) xq xk (p.1.emb x 0).val := by
  unfold sl.HS5_16 sl.r_180 sl.r_181 sl.cst_97 k0_pay285 k0_pay286
  simp only [List.forall_mem_cons]
  exact ⟨start2_l 15 (by decide) ⟨rfl, rfl, rfl, rfl⟩,
    start2_l 14 (by decide) ⟨rfl, rfl, rfl, rfl⟩,
    start2_l 13 (by decide) ⟨rfl, rfl, rfl, rfl⟩,
    start2_l 12 (by decide) ⟨rfl, rfl, rfl, rfl⟩,
    start2_l 11 (by decide) ⟨rfl, rfl, rfl, rfl⟩,
    start2_l 10 (by decide) ⟨rfl, rfl, rfl, rfl⟩,
    start2_l 9 (by decide) ⟨rfl, rfl, rfl, rfl⟩,
    start2_l 8 (by decide) ⟨rfl, rfl, rfl, rfl⟩,
    start2_l 7 (by decide) ⟨rfl, rfl, rfl, rfl⟩,
    start2_l 6 (by decide) ⟨rfl, rfl, rfl, rfl⟩,
    start2_l 5 (by decide) ⟨rfl, rfl, rfl, rfl⟩,
    start2_l 4 (by decide) ⟨rfl, rfl, rfl, rfl⟩,
    start2_l 3 (by decide) ⟨rfl, rfl, rfl, rfl⟩,
    start2_l 2 (by decide) ⟨rfl, rfl, rfl, rfl⟩,
    start2_l 1 (by decide) ⟨rfl, rfl, rfl, rfl⟩,
    start2_l 0 (by decide) ⟨rfl, rfl, rfl, rfl⟩, fun _ h => absurd h List.not_mem_nil⟩

end Cert.Dil
-- ==== Proof.Scratch.lean ====
/- The six scratch buffers, read back whole after the stores: each group's output and log-sum-exp at every token. -/
module

public import proofs.«01_k».proof.Proof.Pieces
public import Idealize.ShloMosaic.Lib.Pipeline.FrameBody

@[expose] public section

set_option maxRecDepth 16384

noncomputable section

namespace Cert.Dil

open Idealize.ShloMosaic Cert.KernelIdeal Cert.KernelIdeal.Gen Cert.KernelIdeal.Gen.kernelRun0_A

/-- A rectangle of 128 rows, `d` apart from the first of block `n` of subsequence `r`. -/
structure IsStore (R : Rect S2048x128) (d r n : Nat) : Prop where
  row : R.off 0 = d * (128 * n) + r
  lane : R.off 1 = 0
  apart : R.stride 0 = d
  lanes : R.stride 1 = 1
  rows : R.size 0 = 128
  cols : R.size 1 = 128

theorem IsStore.mem {R : Rect S2048x128} {d r n : Nat} (h : IsStore R d r n) {y : S2048x128.Idx} (h1 : (y 0).val % d = r)
    (h2 : (y 0).val / d / 128 = n) : y ∈ R.set := by
  have hy : (y 1).val < 128 := (y 1).isLt
  have e : d * ((y 0).val / d) + (y 0).val % d = (y 0).val := Nat.div_add_mod _ _
  have e2 : 128 * n + (y 0).val / d % 128 = (y 0).val / d := by rw [← h2]; exact Nat.div_add_mod _ _
  refine (LoadRect.mem_set (r := R.toLoadRect)).mpr fun a => ?_
  fin_cases a
  · refine ⟨(y 0).val / d % 128, by show _ < R.size 0; rw [h.rows]; exact Nat.mod_lt _ (by omega), ?_⟩
    show (y 0).val = R.off 0 + R.stride 0 * _
    rw [h.row, h.apart, ← h1, Nat.add_right_comm, ← Nat.mul_add, e2, e]
  · refine ⟨(y 1).val, by show _ < R.size 1; rw [h.cols]; exact hy, ?_⟩
    show (y 1).val = R.off 1 + R.stride 1 * _
    rw [h.lane, h.lanes]; omega

/-- Sixteen stores, newest first, one for every subsequence and block, cover the buffer. -/
theorem cover {Val : EltTy → Type} (d nb : Nat) (hd : d * nb = 16) (L : List (View.Piece Val S2048x128 .f32)) (hL : L.length = 16)
    (h : ∀ k : Fin 16, IsStore (L.get (Fin.cast hL.symm k)).1 d ((15 - k.val) / nb) ((15 - k.val) % nb)) (y : S2048x128.Idx) :
    ∃ p ∈ L, y ∈ p.1.set := by
  have hy : (y 0).val < 2048 := (y 0).isLt
  have hd0 : 0 < d := Nat.pos_of_ne_zero (by rintro rfl; omega)
  have hb0 : 0 < nb := Nat.pos_of_ne_zero (by rintro rfl; omega)
  have hr : (y 0).val % d < d := Nat.mod_lt _ hd0
  have hn : (y 0).val / d / 128 < nb := by
    rw [Nat.div_div_eq_div_mul, Nat.div_lt_iff_lt_mul (by positivity)]
    calc (y 0).val < 128 * 16 := hy
      _ = nb * (d * 128) := by rw [← hd]; ring
  obtain ⟨r, er⟩ : ∃ r, (y 0).val % d = r := ⟨_, rfl⟩
  obtain ⟨n, en⟩ : ∃ n, (y 0).val / d / 128 = n := ⟨_, rfl⟩
  rw [er] at hr
  rw [en] at hn
  have hk : r * nb + n < 16 := by
    have := Nat.mul_le_mul_right nb (show r ≤ d - 1 by omega)
    have h3 : (d - 1) * nb + nb = 16 := by rw [← hd, ← Nat.succ_mul]; congr 1; omega
    omega
  have hs := h ⟨15 - (r * nb + n), by omega⟩
  have e15 : 15 - (15 - (r * nb + n)) = n + nb * r := by rw [Nat.mul_comm nb]; omega
  refine ⟨_, List.get_mem _ _, hs.mem ?_ ?_⟩
  · rw [er]; show r = (15 - (15 - (r * nb + n))) / nb
    rw [e15, Nat.add_mul_div_left _ _ hb0, Nat.div_eq_of_lt hn, Nat.zero_add]
  · rw [en]; show n = (15 - (15 - (r * nb + n))) % nb
    rw [e15, Nat.add_mul_mod_self_left, Nat.mod_eq_of_lt hn]

/-- The buffer read back whole. -/
theorem readBack {sig : RefSig} {κ : Kind} {sp : Space} (v : View sig κ sp S2048x128 .f32) (L : List (View.Piece (Elt Ideal) S2048x128 .f32))
    (G : S2048x128.Idx → EReal) (hG : ∀ p ∈ L, ∀ x : p.1.shape.Idx, p.2 x = G (p.1.emb x)) (hc : ∀ y, ∃ p ∈ L, y ∈ p.1.set)
    (inb) : v.readCov L (Rect.unit (s := S2048x128) ![0, 0] S2048x128.size inb).toLoadRect = G := by
  rw [View.readCov_eq_canon']
  funext y
  have e : (Rect.unit (s := S2048x128) ![0, 0] S2048x128.size inb).toLoadRect.idx y = y := by
    funext a; apply Fin.ext
    show (![0, 0] : Fin 2 → Nat) a + 1 * (y a).val = (y a).val
    fin_cases a <;> simp
  rw [e]
  exact View.canon_apply_of_pieces G L hG y (hc y)

variable {c : Dev nD} {i : grid0.Coords} {arg2 : Memref sig .tc .smem S32x24 .f32} {harg2 : arg2.IsWhole}
  {arg3 : Memref sig .tc .vmem S3x128x256 .i32} {harg3 : arg3.IsWhole}
  {x0 : Vec Ideal S32x24 .f32} {x1 : Vec Ideal S3x128x256 .i32}
  {mq mk mv : Memref sig .tc .vmem S2048x128 .f32} {hq : mq.IsWhole} {hk : mk.IsWhole} {hv : mv.IsWhole}
  {xq xk xv : Vec Ideal S2048x128 .f32}

theorem scratch0_o (v : View sig .tc .vmem S2048x128 .f32) (inb) :
    v.readCov (sl.HS0_16 (F := Ideal) c i arg2 harg2 arg3 harg3 mq hq mk hk mv hv x0 x1 xq xk xv)
      (Rect.unit (s := S2048x128) ![0, 0] S2048x128.size inb).toLoadRect
      = fun y => gO 1 (sl.r_34 c i arg2 harg2 arg3 harg3 x0 x1) xq xk xv (y 0).val (y 1) :=
  readBack v _ _ stores0_o (cover 1 16 rfl _ rfl fun k => by fin_cases k <;> exact ⟨rfl, rfl, rfl, rfl, rfl, rfl⟩) inb

theorem scratch0_l (v : View sig .tc .vmem S2048x128 .f32) (inb) :
    v.readCov (sl.HS3_16 (F := Ideal) c i arg2 harg2 arg3 harg3 mq hq mk hk x0 x1 xq xk)
      (Rect.unit (s := S2048x128) ![0, 0] S2048x128.size inb).toLoadRect
      = fun y => gL 1 (sl.r_34 c i arg2 harg2 arg3 harg3 x0 x1) xq xk (y 0).val :=
  readBack v _ _ stores0_l (cover 1 16 rfl _ rfl fun k => by fin_cases k <;> exact ⟨rfl, rfl, rfl, rfl, rfl, rfl⟩) inb

theorem scratch1_o (v : View sig .tc .vmem S2048x128 .f32) (inb) :
    v.readCov (sl.HS1_16 (F := Ideal) c i arg2 harg2 arg3 harg3 mq hq mk hk mv hv x0 x1 xq xk xv)
      (Rect.unit (s := S2048x128) ![0, 0] S2048x128.size inb).toLoadRect
      = fun y => gO 4 (sl.r_97 c i arg2 harg2 arg3 harg3 x0 x1) xq xk xv (y 0).val (y 1) :=
  readBack v _ _ stores1_o (cover 4 4 rfl _ rfl fun k => by fin_cases k <;> exact ⟨rfl, rfl, rfl, rfl, rfl, rfl⟩) inb

theorem scratch1_l (v : View sig .tc .vmem S2048x128 .f32) (inb) :
    v.readCov (sl.HS4_16 (F := Ideal) c i arg2 harg2 arg3 harg3 mq hq mk hk x0 x1 xq xk)
      (Rect.unit (s := S2048x128) ![0, 0] S2048x128.size inb).toLoadRect
      = fun y => gL 4 (sl.r_97 c i arg2 harg2 arg3 harg3 x0 x1) xq xk (y 0).val :=
  readBack v _ _ stores1_l (cover 4 4 rfl _ rfl fun k => by fin_cases k <;> exact ⟨rfl, rfl, rfl, rfl, rfl, rfl⟩) inb

theorem scratch2_o (v : View sig .tc .vmem S2048x128 .f32) (inb) :
    v.readCov (sl.HS2_16 (F := Ideal) c i arg2 harg2 arg3 harg3 mq hq mk hk mv hv x0 x1 xq xk xv)
      (Rect.unit (s := S2048x128) ![0, 0] S2048x128.size inb).toLoadRect
      = fun y => gO 16 (sl.v1675 c i arg2 harg2 arg3 harg3 x0 x1) xq xk xv (y 0).val (y 1) :=
  readBack v _ _ stores2_o (cover 16 1 rfl _ rfl fun k => by fin_cases k <;> exact ⟨rfl, rfl, rfl, rfl, rfl, rfl⟩) inb

theorem scratch2_l (v : View sig .tc .vmem S2048x128 .f32) (inb) :
    v.readCov (sl.HS5_16 (F := Ideal) c i arg2 harg2 arg3 harg3 mq hq mk hk x0 x1 xq xk)
      (Rect.unit (s := S2048x128) ![0, 0] S2048x128.size inb).toLoadRect
      = fun y => gL 16 (sl.v1675 c i arg2 harg2 arg3 harg3 x0 x1) xq xk (y 0).val :=
  readBack v _ _ stores2_l (cover 16 1 rfl _ rfl fun k => by fin_cases k <;> exact ⟨rfl, rfl, rfl, rfl, rfl, rfl⟩) inb

end Cert.Dil
-- ==== Proof.Out.lean ====
/- What the kernel's body leaves in its output block: the three groups merged by their log-sum-exps. -/
module

public import proofs.«01_k».proof.Proof.Scratch

@[expose] public section

set_option maxRecDepth 16384

noncomputable section

namespace Cert.Dil

open Idealize.ShloMosaic Cert.KernelIdeal Cert.KernelIdeal.Gen Cert.KernelIdeal.Gen.kernelRun0_A

def merged (o0 o1 o2 l0 l1 l2 : FVec Ideal S2048x128 .f32) : FVec Ideal S2048x128 .bf16 :=
  k0_pay1 (k0_pay394 l0 l1 l2) (k0_pay395 l0 l1 l2) (k0_pay397 (k0_pay396 l0 l1 l2))
    (k0_pay398 (k0_pay394 l0 l1 l2) (k0_pay395 l0 l1 l2) (k0_pay396 l0 l1 l2)) o0 o1 o2

theorem merged_apply (o0 o1 o2 l0 l1 l2 : FVec Ideal S2048x128 .f32) (t : Fin 2048) (l : Fin 128) :
    merged o0 o1 o2 l0 l1 l2 (ix2 t l)
      = merge ![o0 (ix2 t l), o1 (ix2 t l), o2 (ix2 t l)] ![l0 (ix2 t l), l1 (ix2 t l), l2 (ix2 t l)] := by
  pointwise! [merged, k0_pay1, k0_pay393, k0_pay394, k0_pay395, k0_pay396, k0_pay397, k0_pay398]

variable (c : Dev nD) (i : grid0.Coords) (arg2 : Memref sig .tc .smem S32x24 .f32) (harg2 : arg2.IsWhole) (arg3 : Memref sig .tc .vmem S3x128x256 .i32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
  (x0 : Vec Ideal S32x24 .f32) (x1 : Vec Ideal S3x128x256 .i32) (x2 x3 x4 x5 x6 x7 x8 x9 x10 : Vec Ideal S2048x128 .f32)

/-- The whole block. -/
abbrev whole : Rect S2048x128 := Rect.unit (s := S2048x128) ![0, 0] S2048x128.size inb_S2048x128_S2048x128_0_0

theorem pieces_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).1
    = [⟨whole, merged (arg14.view.readCov (sl.HS0_16 (F := Ideal) c i arg2 harg2 arg3 harg3 arg4 harg4 arg7 harg7 arg10 harg10 x0 x1 x2 x5 x8) whole.toLoadRect)
        (arg15.view.readCov (sl.HS1_16 (F := Ideal) c i arg2 harg2 arg3 harg3 arg5 harg5 arg8 harg8 arg11 harg11 x0 x1 x3 x6 x9) whole.toLoadRect)
        (arg16.view.readCov (sl.HS2_16 (F := Ideal) c i arg2 harg2 arg3 harg3 arg6 harg6 arg9 harg9 arg12 harg12 x0 x1 x4 x7 x10) whole.toLoadRect)
        (arg17.view.readCov (sl.HS3_16 (F := Ideal) c i arg2 harg2 arg3 harg3 arg4 harg4 arg7 harg7 x0 x1 x2 x5) whole.toLoadRect)
        (arg18.view.readCov (sl.HS4_16 (F := Ideal) c i arg2 harg2 arg3 harg3 arg5 harg5 arg8 harg8 x0 x1 x3 x6) whole.toLoadRect)
        (arg19.view.readCov (sl.HS5_16 (F := Ideal) c i arg2 harg2 arg3 harg3 arg6 harg6 arg9 harg9 x0 x1 x4 x7) whole.toLoadRect)⟩] := rfl

theorem out_merged : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = merged (arg14.view.readCov (sl.HS0_16 (F := Ideal) c i arg2 harg2 arg3 harg3 arg4 harg4 arg7 harg7 arg10 harg10 x0 x1 x2 x5 x8) whole.toLoadRect)
        (arg15.view.readCov (sl.HS1_16 (F := Ideal) c i arg2 harg2 arg3 harg3 arg5 harg5 arg8 harg8 arg11 harg11 x0 x1 x3 x6 x9) whole.toLoadRect)
        (arg16.view.readCov (sl.HS2_16 (F := Ideal) c i arg2 harg2 arg3 harg3 arg6 harg6 arg9 harg9 arg12 harg12 x0 x1 x4 x7 x10) whole.toLoadRect)
        (arg17.view.readCov (sl.HS3_16 (F := Ideal) c i arg2 harg2 arg3 harg3 arg4 harg4 arg7 harg7 x0 x1 x2 x5) whole.toLoadRect)
        (arg18.view.readCov (sl.HS4_16 (F := Ideal) c i arg2 harg2 arg3 harg3 arg5 harg5 arg8 harg8 x0 x1 x3 x6) whole.toLoadRect)
        (arg19.view.readCov (sl.HS5_16 (F := Ideal) c i arg2 harg2 arg3 harg3 arg6 harg6 arg9 harg9 x0 x1 x4 x7) whole.toLoadRect) := by
  refine (View.read_writes_junk_eq_canon _ _).trans ?_
  rw [pieces_eq]
  exact View.canon_unit_zero (by funext a; fin_cases a <;> rfl) _ _

theorem out_eq (t : Fin 2048) (l : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 t l)
      = merge ![gO 1 (sl.r_34 c i arg2 harg2 arg3 harg3 x0 x1) x2 x5 x8 t l, gO 4 (sl.r_97 c i arg2 harg2 arg3 harg3 x0 x1) x3 x6 x9 t l,
          gO 16 (sl.v1675 c i arg2 harg2 arg3 harg3 x0 x1) x4 x7 x10 t l]
        ![gL 1 (sl.r_34 c i arg2 harg2 arg3 harg3 x0 x1) x2 x5 t, gL 4 (sl.r_97 c i arg2 harg2 arg3 harg3 x0 x1) x3 x6 t,
          gL 16 (sl.v1675 c i arg2 harg2 arg3 harg3 x0 x1) x4 x7 t] := by
  rw [out_merged, merged_apply, scratch0_o, scratch1_o, scratch2_o, scratch0_l, scratch1_l, scratch2_l]
  rfl

end Cert.Dil
-- ==== Proof.Bias.lean ====
/- The kernel's bias of a head: 32 selections by the bucket table's word, from −∞. -/
module

public import proofs.«01_k».proof.Proof.Gen.KernelIdeal.Frame
public import proofs.«01_k».proof.Proof.Block
public import Idealize.ShloMosaic.Lib.WholeRead

@[expose] public section

set_option maxRecDepth 16384

noncomputable section

namespace Cert.Dil

open Idealize.ShloMosaic Cert.KernelIdeal Cert.KernelIdeal.Gen Cert.KernelIdeal.Gen.kernelRun0_A

/-- The first `n` selections. -/
def chain (w : IVec S128x256 32) (f : Nat → EReal) : Nat → FVec Ideal S128x256 .f32
  | 0 => broadcast S128x256 (Named.named Cert.KernelIdeal.κ "mask" 0xF149F2CA#32)
  | n + 1 => select (cmpi .eq w (broadcast S128x256 (BitVec.ofNat 32 n))) (broadcast S128x256 (f n)) (chain w f n)

theorem chain_apply (w : IVec S128x256 32) (f : Nat → EReal) (x : S128x256.Idx) : ∀ n : Nat, n ≤ 32 →
    chain w f n x = if (w x).toNat < n then f (w x).toNat else ⊥
  | 0, _ => by rw [if_neg (Nat.not_lt_zero _)]; rfl
  | n + 1, hn => by
    have e : chain w f (n + 1) x = if w x = BitVec.ofNat 32 n then f n else chain w f n x := by
      show (if (BitVec.ofBool (w x == BitVec.ofNat 32 n)) = 1#1 then f n else chain w f n x) = _
      by_cases h : w x = BitVec.ofNat 32 n
      · rw [if_pos h, beq_iff_eq.mpr h]; rfl
      · rw [if_neg h, beq_eq_false_iff_ne.mpr h]; rfl
    rw [e, chain_apply w f x n (by omega)]
    have hw : w x = BitVec.ofNat 32 n ↔ (w x).toNat = n := by
      rw [← BitVec.toNat_inj, BitVec.toNat_ofNat, Nat.mod_eq_of_lt (by omega)]
    by_cases h : (w x).toNat = n
    · rw [if_pos (hw.mpr h), if_pos (by omega), h]
    · rw [if_neg (fun h' => h (hw.mp h'))]
      by_cases h2 : (w x).toNat < n
      · rw [if_pos h2, if_pos (by omega)]
      · rw [if_neg h2, if_neg (by omega)]

section

variable (c : Dev nD) (i : grid0.Coords) (arg2 : Memref sig .tc .smem S32x24 .f32) (harg2 : arg2.IsWhole)
  (arg3 : Memref sig .tc .vmem S3x128x256 .i32) (harg3 : arg3.IsWhole)
  (x0 : Vec Ideal S32x24 .f32) (x1 : Vec Ideal S3x128x256 .i32)

/-- The head's column of group `g` in the table of biases, as the kernel computes it. -/
def col (o : BitVec 32) : Nat := BitVec.toNat (Scalar.indexCast (Scalar.addi o (BitVec.ofNat 32 (i 1).val)))

theorem col_eq (g : Nat) (hg : g < 3) : col i (BitVec.ofNat 32 (8 * g)) = 8 * g + (i 1).val := by
  have h : (i 1).val < 8 := (i 1).isLt
  show ((BitVec.ofNat 32 (8 * g)) + (BitVec.ofNat 32 (i 1).val)).toNat = _
  rw [BitVec.toNat_add, BitVec.toNat_ofNat, BitVec.toNat_ofNat]
  omega

theorem entry_inb (g : Nat) (hg : g < 3) (n : Nat) (a : Fin 2) :
    (![n % 32, col i (BitVec.ofNat 32 (8 * g))] : Fin 2 → Nat) a + S1x1.size a ≤ S32x24.size a := by
  have h : (i 1).val < 8 := (i 1).isLt
  rw [col_eq i g hg]
  fin_cases a <;> simp [S1x1, S32x24] <;> omega

/-- Entry `n` of the head's column. -/
def entry (g : Nat) (hg : g < 3) (n : Nat) : EReal :=
  View.readAt (Elt Ideal) arg2.view (Rect.unit (s := S32x24) ![n % 32, col i (BitVec.ofNat 32 (8 * g))] S1x1.size (entry_inb i g hg n)).toLoadRect
    (harg2.unread x0) (Shape.Idx.first (s := S1x1) (by decide))

theorem entry_eq (g : Nat) (hg : g < 3) (n : Nat) (hn : n < 32) :
    entry i arg2 harg2 x0 g hg n = x0 (ix2 ⟨n, hn⟩ ⟨8 * g + (i 1).val, by have : (i 1).val < 8 := (i 1).isLt; omega⟩) := by
  unfold entry
  rw [Memref.IsWhole.readAt_unread]
  congr 1
  funext a
  apply Fin.ext
  fin_cases a
  · show n % 32 + 1 * 0 = n
    omega
  · show col i _ + 1 * 0 = _
    rw [col_eq i g hg]; rfl

theorem words_inb (g : Nat) (hg : g < 3) (a : Fin 3) : (![g, 0, 0] : Fin 3 → Nat) a + S1x128x256.size a ≤ S3x128x256.size a := by
  fin_cases a <;> simp [S1x128x256, S3x128x256] <;> omega

/-- The group's words. -/
def words (g : Nat) (hg : g < 3) : IVec S128x256 32 :=
  shapeCast S128x256 (View.readAt (Elt Ideal) arg3.view (Rect.unit (s := S3x128x256) ![g, 0, 0] S1x128x256.size (words_inb g hg)).toLoadRect
    (harg3.unread x1)) shapeCasts_S1x128x256_S128x256

theorem words_eq (g : Nat) (hg : g < 3) (p : Fin 128) (j : Fin 256) : words arg3 harg3 x1 g hg (ix2 p j) = x1 (ix3 ⟨g, hg⟩ p j) := by
  have e : ∀ y : Vec Ideal S1x128x256 .i32, shapeCast S128x256 y shapeCasts_S1x128x256_S128x256 (ix2 p j) = y (ix3 0 p j) := by
    intro y
    pointwise!
  rw [words, e, Memref.IsWhole.readAt_unread]
  congr 1
  funext a
  apply Fin.ext
  fin_cases a
  · show g + 1 * 0 = g; omega
  · show 0 + 1 * p.val = p.val; omega
  · show 0 + 1 * j.val = j.val; omega

theorem bias0 : sl.r_34 c i arg2 harg2 arg3 harg3 x0 x1 = chain (words arg3 harg3 x1 0 (by decide)) (entry i arg2 harg2 x0 0 (by decide)) 32 := rfl

theorem bias1 : sl.r_97 c i arg2 harg2 arg3 harg3 x0 x1 = chain (words arg3 harg3 x1 1 (by decide)) (entry i arg2 harg2 x0 1 (by decide)) 32 := rfl

theorem bias2 : sl.v1675 c i arg2 harg2 arg3 harg3 x0 x1 = chain (words arg3 harg3 x1 2 (by decide)) (entry i arg2 harg2 x0 2 (by decide)) 32 := rfl

end

end Cert.Dil
-- ==== Proof.Table.lean ====
/- The bucket table that the kernel's host code builds: entry (g, p, j) is the T5 bucket of the token distance
   dil_g * (p + 128 - j) where p + 128 - j lies in the window 0 ... 128, and -1 elsewhere. -/
module

public import proofs.«01_k».proof.Proof.Gen.KernelIdeal.Value
public import Idealize.ShloMosaic.Lib.StableHlo.Run
public import Idealize.ShloMosaic.Lib.Pointwise

@[expose] public section

set_option maxRecDepth 16384

noncomputable section

namespace Cert.Dil

open Idealize.ShloMosaic Cert.KernelIdeal Cert.KernelIdeal.Gen

/-- The T5 bucket of every distance of an array. -/
def bktG (s : Shape) (h : S_.BroadcastsInDim s (![] : Fin 0 → Fin s.rank)) (d : IVec s 32) : IVec s 32 :=
  select (cmpi .slt d (broadcastInDim s ![] h (constantI S_ 32 16#32))) d
    (minsi (addi (broadcastInDim s ![] h (constantI S_ 32 16#32)) (fptosi 32 (mulf (Host.divf (Host.log (Host.divf
      (sitofp (F := Ideal) .f32 (maxsi d (broadcastInDim s ![] h (constantI S_ 32 1#32)))) (broadcastInDim s ![] h (constant S_ .f32 0x41800000#32))))
      (broadcastInDim s ![] h (constant S_ .f32 0x409B43D5#32))) (broadcastInDim s ![] h (constant S_ .f32 0x41800000#32)))))
      (broadcastInDim s ![] h (constantI S_ 32 31#32)))

/-- The T5 bucket of one distance. -/
def bkt (d : BitVec 32) : BitVec 32 := bktG S128x256 bcast_S_S128x256 (fun _ => d) (ix2 0 0)

theorem bktG_apply (s : Shape) (h : S_.BroadcastsInDim s (![] : Fin 0 → Fin s.rank)) (d : IVec s 32) (x : s.Idx) : bktG s h d x = bkt (d x) := rfl

/-- Query row minus key column, in steps of the dilation. -/
def dmat : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The table of the dilation `d`. -/
def tabM (d : BitVec 32) : IVec S128x256 32 :=
  select (andi (cmpi .sge dmat (broadcastInDim S128x256 ![] bcast_S_S128x256 (constantI S_ 32 0#32)))
      (cmpi .sle dmat (broadcastInDim S128x256 ![] bcast_S_S128x256 (constantI S_ 32 128#32))))
    (bktG S128x256 bcast_S_S128x256 (muli (maxsi dmat (broadcastInDim S128x256 ![] bcast_S_S128x256 (constantI S_ 32 0#32)))
      (broadcastInDim S128x256 ![] bcast_S_S128x256 (constantI S_ 32 d))))
    (broadcastInDim S128x256 ![] bcast_S_S128x256 (constantI S_ 32 4294967295#32))

/-- The same with a leading axis. -/
def tabV (d : BitVec 32) : IVec S1x128x256 32 := broadcastInDim S1x128x256 ![1, 2] bcast_S128x256_S1x128x256_1_2 (tabM d)

/-- Three tables one after another. -/
def cat (a b d : IVec S1x128x256 32) : IVec S3x128x256 32 :=
  concatenate S3x128x256 0 [⟨S1x128x256, a⟩, ⟨S1x128x256, b⟩, ⟨S1x128x256, d⟩] concatenates_S1x128x256_S1x128x256_S1x128x256_S3x128x256_d0

theorem cat_0 (a b d : IVec S1x128x256 32) (p : Fin 128) (j : Fin 256) : cat a b d (ix3 0 p j) = a (ix3 0 p j) := by
  pointwise! [cat]

theorem cat_1 (a b d : IVec S1x128x256 32) (p : Fin 128) (j : Fin 256) : cat a b d (ix3 1 p j) = b (ix3 0 p j) := by
  pointwise! [cat]

theorem cat_2 (a b d : IVec S1x128x256 32) (p : Fin 128) (j : Fin 256) : cat a b d (ix3 2 p j) = d (ix3 0 p j) := by
  pointwise! [cat]

variable (m : (ℓ : Loc nD τ sig) → Buf (Elt Ideal) ℓ)

set_option maxHeartbeats 2000000 in
theorem table_eq (c : Dev nD) : V m c main_v86 = cat (tabV 1#32) (tabV 4#32) (tabV 16#32) := by
  unfold V
  simp only [List.flatten_cons, List.flatten_nil, List.append_nil, List.cons_append, List.nil_append]
  after_results_simp
  dsimp only [Matrix.cons_val]
  change cat _ _ _ = _
  after_results_simp
  simp only [StableHlo.TRef.ofBuf_toBuf]
  simp only [StableHlo.TRef.ofBuf, StableHlo.TRef.toBuf, cast_eq]
  rfl

/-- Query row minus key column, in steps of the dilation. -/
def delta (p : Fin 128) (j : Fin 256) : BitVec 32 := BitVec.ofNat 32 p.val + 128#32 - BitVec.ofNat 32 j.val

theorem dmat_apply (p : Fin 128) (j : Fin 256) : dmat (ix2 p j) = delta p j := by
  pointwise! [dmat]

theorem choose_apply (a b : IVec S128x256 32) (x : S128x256.Idx) :
    select (andi (cmpi .sge a (broadcastInDim S128x256 ![] bcast_S_S128x256 (constantI S_ 32 0#32)))
      (cmpi .sle a (broadcastInDim S128x256 ![] bcast_S_S128x256 (constantI S_ 32 128#32)))) b
      (broadcastInDim S128x256 ![] bcast_S_S128x256 (constantI S_ 32 4294967295#32)) x =
    if IntOp.andi (IntOp.cmpi .sge (a x) 0#32) (IntOp.cmpi .sle (a x) 128#32) = 1#1 then b x else 4294967295#32 := rfl

theorem times_apply (a : IVec S128x256 32) (d : BitVec 32) (x : S128x256.Idx) :
    muli (maxsi a (broadcastInDim S128x256 ![] bcast_S_S128x256 (constantI S_ 32 0#32))) (broadcastInDim S128x256 ![] bcast_S_S128x256 (constantI S_ 32 d)) x =
    IntOp.muli (IntOp.maxsi (a x) 0#32) d := rfl

theorem tabM_apply (d : BitVec 32) (x : S128x256.Idx) : tabM d x =
    if IntOp.andi (IntOp.cmpi .sge (dmat x) 0#32) (IntOp.cmpi .sle (dmat x) 128#32) = 1#1 then bkt (IntOp.muli (IntOp.maxsi (dmat x) 0#32) d) else 4294967295#32 := by
  rw [tabM, choose_apply, bktG_apply, times_apply]

theorem tabV_apply (d : BitVec 32) (p : Fin 128) (j : Fin 256) : tabV d (ix3 0 p j) =
    if IntOp.andi (IntOp.cmpi .sge (delta p j) 0#32) (IntOp.cmpi .sle (delta p j) 128#32) = 1#1 then bkt (IntOp.muli (IntOp.maxsi (delta p j) 0#32) d) else 4294967295#32 := by
  have e : ∀ t : IVec S128x256 32, broadcastInDim S1x128x256 ![1, 2] bcast_S128x256_S1x128x256_1_2 t (ix3 0 p j) = t (ix2 p j) := by
    intro t
    pointwise!
  rw [tabV, e, tabM_apply, dmat_apply]

end Cert.Dil

end
-- ==== Proof.Bucket.lean ====
/- The words of the bucket table, read as numbers: the bucket of a distance up to 2048 is below 32, and the
   table's entry (g, p, j) is the bucket of dil_g * (p + 128 - j) inside the window and -1 outside. -/
module

public import proofs.«01_k».proof.Proof.Table

@[expose] public section

set_option maxRecDepth 16384

noncomputable section

namespace Cert.Dil

open Idealize.ShloMosaic Cert.KernelIdeal Cert.KernelIdeal.Gen

theorem bkt_unfold (d : BitVec 32) : bkt d = if IntOp.cmpi .slt d 16#32 = 1#1 then d else
    IntOp.minsi (16#32 + Ideal.fptosi 32 (Ideal.div (Ideal.log (Ideal.div (((IntOp.maxsi d 1#32).toInt : ℝ) : EReal)
      (Ideal.ofBits .f32 0x41800000#32))) (Ideal.ofBits .f32 0x409B43D5#32) * Ideal.ofBits .f32 0x41800000#32)) 31#32 := rfl

theorem ofBits_16 : Ideal.ofBits .f32 0x41800000#32 = ((16 : ℝ) : EReal) := by
  simp [Ideal.ofBits, Ideal.ieee, -EReal.coe_mul]; norm_num

theorem ofBits_c : ∃ r : ℝ, 4 ≤ r ∧ Ideal.ofBits .f32 0x409B43D5#32 = (r : EReal) := by
  refine ⟨10175445 / 2097152, by norm_num, ?_⟩
  simp [Ideal.ofBits, Ideal.ieee, -EReal.coe_mul]; norm_num

theorem toInt_small (n : Nat) (hn : n < 2147483648) : (BitVec.ofNat 32 n).toInt = n := by
  rw [BitVec.toInt_eq_toNat_cond, BitVec.toNat_ofNat]
  have : n % 2 ^ 32 = n := Nat.mod_eq_of_lt (by omega)
  rw [this, if_pos (by omega)]

/-- The signed maximum with a smaller or equal word. -/
theorem maxsi_of_le (x y : BitVec 32) (h : y.toInt ≤ x.toInt) : IntOp.maxsi x y = x := by
  unfold IntOp.maxsi
  split_ifs with hh
  · rfl
  · apply BitVec.eq_of_toInt_eq
    rw [BitVec.slt_eq_decide] at hh
    have : ¬ y.toInt < x.toInt := by simpa using hh
    omega

theorem bkt_lt (n : Nat) (hn : n ≤ 2048) : (bkt (BitVec.ofNat 32 n)).toNat < 32 := by
  have hi : (BitVec.ofNat 32 n).toInt = n := by
    exact toInt_small n (by omega)
  rw [bkt_unfold]
  by_cases h : n < 16
  · rw [if_pos]
    · rw [BitVec.toNat_ofNat]; omega
    · show BitVec.ofBool ((BitVec.ofNat 32 n).slt 16#32) = 1#1
      have : (BitVec.ofNat 32 n).slt 16#32 = true := by
        rw [BitVec.slt_eq_decide, hi]; simpa using by exact_mod_cast h
      rw [this]; rfl
  · have e1 : (BitVec.ofNat 32 n).slt 16#32 = false := by
      rw [BitVec.slt_eq_decide, hi]; simpa using by exact_mod_cast (Nat.le_of_not_lt h)
    have e2 : IntOp.maxsi (BitVec.ofNat 32 n) 1#32 = BitVec.ofNat 32 n :=
      maxsi_of_le _ _ (by rw [hi]; have : (1#32).toInt = 1 := rfl; omega)
    obtain ⟨r, hr, er⟩ := ofBits_c
    rw [if_neg (by show ¬ BitVec.ofBool ((BitVec.ofNat 32 n).slt 16#32) = 1#1; rw [e1]; decide), e2, hi, ofBits_16, er,
      Ideal.div_coe (by norm_num : (16 : ℝ) ≠ 0), ← EReal.coe_mul, Ideal.log_coe]
    have hx : (1 : ℝ) ≤ ((n : ℤ) : ℝ) * (1 / 16) := by
      have : (16 : ℝ) ≤ ((n : ℤ) : ℝ) := by exact_mod_cast Nat.le_of_not_lt h
      linarith
    have hx2 : ((n : ℤ) : ℝ) * (1 / 16) ≤ 128 := by
      have : ((n : ℤ) : ℝ) ≤ 2048 := by exact_mod_cast hn
      linarith
    generalize ((n : ℤ) : ℝ) * (1 / 16) = x at hx hx2
    rw [if_neg (by linarith), Ideal.div_coe (by linarith : r ≠ 0), ← EReal.coe_mul, ← EReal.coe_mul]
    have l0 : 0 ≤ Real.log x := Real.log_nonneg hx
    have l1 : Real.log x ≤ 127 := by linarith [Real.log_le_sub_one_of_pos (show 0 < x by linarith)]
    have y0 : 0 ≤ Real.log x * (1 / r) * 16 := by positivity
    have y1 : Real.log x * (1 / r) * 16 ≤ 508 := by
      have : 1 / r ≤ 1 / 4 := one_div_le_one_div_of_le (by norm_num) hr
      have : Real.log x * (1 / r) ≤ 127 * (1 / 4) := mul_le_mul l1 this (by positivity) (by norm_num)
      linarith
    generalize Real.log x * (1 / r) * 16 = y at y0 y1
    have f0 : 0 ≤ ⌊y⌋ := Int.floor_nonneg.mpr y0
    have f1 : ⌊y⌋ ≤ 508 := by
      have : (⌊y⌋ : ℝ) ≤ 508 := le_trans (Int.floor_le y) y1
      exact_mod_cast this
    have ef : Ideal.fptosi 32 ((y : ℝ) : EReal) = BitVec.ofNat 32 ⌊y⌋.toNat := by
      rw [Ideal.fptosi, Ideal.toIntClamped_coe, if_pos y0]
      have : max (-((2 ^ (32 - 1) : Nat) : Int)) (min (((2 ^ (32 - 1) : Nat) : Int) - 1) ⌊y⌋) = ((⌊y⌋.toNat : Nat) : Int) := by
        norm_num; omega
      rw [this, BitVec.ofInt_natCast]
    have ek : ⌊y⌋.toNat ≤ 508 := by omega
    rw [ef]
    generalize ⌊y⌋.toNat = k at ek
    have es : 16#32 + BitVec.ofNat 32 k = BitVec.ofNat 32 (16 + k) := by
      rw [BitVec.ofNat_add]
    rw [es]
    have hik : (BitVec.ofNat 32 (16 + k)).toInt = ((16 + k : Nat) : Int) := by
      exact toInt_small _ (by omega)
    unfold IntOp.minsi
    split_ifs with hh
    · rw [BitVec.slt_eq_decide, hik] at hh
      have : ((16 + k : Nat) : Int) < 31 := by simpa using hh
      rw [BitVec.toNat_ofNat]; omega
    · decide

theorem delta_toInt (p : Fin 128) (j : Fin 256) : (delta p j).toInt = (p.val : Int) + 128 - j.val := by
  have hp := p.isLt
  have hj := j.isLt
  unfold delta
  rw [BitVec.toInt_sub, BitVec.toInt_add, toInt_small _ (by omega), toInt_small _ (by omega), toInt_small _ (by omega)]
  simp only [Int.bmod_def]
  omega

theorem band_iff (p : Fin 128) (j : Fin 256) : IntOp.andi (IntOp.cmpi .sge (delta p j) 0#32) (IntOp.cmpi .sle (delta p j) 128#32) = 1#1 ↔
    p.val ≤ j.val ∧ j.val ≤ p.val + 128 := by
  show (BitVec.ofBool ((0#32).sle (delta p j)) &&& BitVec.ofBool ((delta p j).sle 128#32)) = 1#1 ↔ _
  rw [BitVec.sle_eq_decide, BitVec.sle_eq_decide, delta_toInt]
  have e0 : (0#32).toInt = 0 := rfl
  have e1 : (128#32).toInt = 128 := rfl
  rw [e0, e1]
  by_cases h1 : (0 : Int) ≤ (p.val : Int) + 128 - j.val <;> by_cases h2 : (p.val : Int) + 128 - j.val ≤ 128 <;>
    simp only [h1, h2, decide_true, decide_false] <;> constructor <;> intro h <;> first | omega | rfl | (exact absurd h (by decide))

/-- The table's entry inside the window and outside. -/
theorem tabV_eq (d : Nat) (hd : d ≤ 16) (p : Fin 128) (j : Fin 256) : tabV (BitVec.ofNat 32 d) (ix3 0 p j) =
    if p.val ≤ j.val ∧ j.val ≤ p.val + 128 then bkt (BitVec.ofNat 32 (d * (p.val + 128 - j.val))) else 4294967295#32 := by
  have hp := p.isLt
  have hj := j.isLt
  rw [tabV_apply]
  by_cases hb : p.val ≤ j.val ∧ j.val ≤ p.val + 128
  · rw [if_pos hb, if_pos ((band_iff p j).mpr hb)]
    congr 1
    have e : delta p j = BitVec.ofNat 32 (p.val + 128 - j.val) := by
      apply BitVec.eq_of_toInt_eq
      rw [delta_toInt, toInt_small _ (by omega)]; omega
    have e2 : IntOp.maxsi (delta p j) 0#32 = delta p j :=
      maxsi_of_le _ _ (by rw [delta_toInt]; have : (0#32).toInt = 0 := rfl; omega)
    rw [e2, e]
    show BitVec.ofNat 32 (p.val + 128 - j.val) * BitVec.ofNat 32 d = _
    rw [← BitVec.ofNat_mul, Nat.mul_comm]
  · rw [if_neg hb, if_neg (fun h => hb ((band_iff p j).mp h))]

end Cert.Dil

end
-- ==== Proof.RefOps.lean ====
/- The host operations of the reference, read at an index. -/
module

public import proofs.«01_k».proof.Proof.Gen.ReferenceIdeal.Run
public import proofs.«01_k».proof.Proof.Row
public import Idealize.ShloMosaic.Lib.Pointwise
public import Idealize.ShloMosaic.Lib.Pipeline.Value
public import Idealize.ShloMosaic.Lib.ValueIdxRank6

@[expose] public section

set_option maxRecDepth 16384

noncomputable section

namespace Cert.Dil

open Idealize.ShloMosaic Cert.ReferenceIdeal Cert.ReferenceIdeal.Gen

theorem q_at (x : FVec Ideal S16384x3072 .f32) (b : Fin 8) (t : Fin 2048) (g : Fin 3) (h : Fin 8) (c : Fin 128) :
    shapeCast S8x2048x3x8x128 x shapeCasts_S16384x3072_S8x2048x3x8x128 (ix5 b t g h c) =
      x (ix2 ⟨2048 * b.val + t.val, by omega⟩ ⟨1024 * g.val + 128 * h.val + c.val, by omega⟩) := by
  refine shapeCast_apply _ _ _ _ ?_
  rw [Shape.rowMajor_val_two, Shape.rowMajor_val_five]
  show (2048 * b.val + t.val) * 3072 + (1024 * g.val + 128 * h.val + c.val) = (((b.val * 2048 + t.val) * 3 + g.val) * 8 + h.val) * 128 + c.val
  omega

theorem kv_at (x : FVec Ideal S16384x6144 .f32) (b : Fin 8) (t : Fin 2048) (u : Fin 2) (g : Fin 3) (h : Fin 8) (c : Fin 128) :
    shapeCast S8x2048x2x3x8x128 x shapeCasts_S16384x6144_S8x2048x2x3x8x128 (ix6 b t u g h c) =
      x (ix2 ⟨2048 * b.val + t.val, by omega⟩ ⟨3072 * u.val + 1024 * g.val + 128 * h.val + c.val, by omega⟩) := by
  refine shapeCast_apply _ _ _ _ ?_
  rw [Shape.rowMajor_val_two, Shape.rowMajor_val_six]
  show (2048 * b.val + t.val) * 6144 + (3072 * u.val + 1024 * g.val + 128 * h.val + c.val) = ((((b.val * 2048 + t.val) * 2 + u.val) * 3 + g.val) * 8 + h.val) * 128 + c.val
  omega

theorem drop_at (x : FVec Ideal S8x2048x1x3x8x128 .f32) (b : Fin 8) (t : Fin 2048) (g : Fin 3) (h : Fin 8) (c : Fin 128) :
    shapeCast S8x2048x3x8x128 x shapeCasts_S8x2048x1x3x8x128_S8x2048x3x8x128 (ix5 b t g h c) = x (ix6 b t 0 g h c) := by
  refine shapeCast_apply _ _ _ _ ?_
  rw [Shape.rowMajor_val_six, Shape.rowMajor_val_five]
  show ((((b.val * 2048 + t.val) * 1 + 0) * 3 + g.val) * 8 + h.val) * 128 + c.val = (((b.val * 2048 + t.val) * 3 + g.val) * 8 + h.val) * 128 + c.val
  omega

theorem key_at (y : FVec Ideal S8x2048x2x3x8x128 .f32) (b : Fin 8) (t : Fin 2048) (g : Fin 3) (h : Fin 8) (c : Fin 128) :
    shapeCast S8x2048x3x8x128 (extractStridedSlice S8x2048x1x3x8x128 ![0, 0, 0, 0, 0, 0] y slices_S8x2048x2x3x8x128_S8x2048x1x3x8x128_0_0_0_0_0_0) shapeCasts_S8x2048x1x3x8x128_S8x2048x3x8x128 (ix5 b t g h c) =
      y (ix6 b t 0 g h c) := by
  rw [drop_at]
  pointwise!

theorem val_at (y : FVec Ideal S8x2048x2x3x8x128 .f32) (b : Fin 8) (t : Fin 2048) (g : Fin 3) (h : Fin 8) (c : Fin 128) :
    shapeCast S8x2048x3x8x128 (extractStridedSlice S8x2048x1x3x8x128 ![0, 0, 1, 0, 0, 0] y slices_S8x2048x2x3x8x128_S8x2048x1x3x8x128_0_0_1_0_0_0) shapeCasts_S8x2048x1x3x8x128_S8x2048x3x8x128 (ix5 b t g h c) =
      y (ix6 b t 1 g h c) := by
  rw [drop_at]
  pointwise!

theorem flat_at (y : FVec Ideal S8x2048x8x128 .f32) (b : Fin 8) (h : Fin 8) (t : Fin 2048) (c : Fin 128) :
    truncf .bf16 (shapeCast S16384x1024 y shapeCasts_S8x2048x8x128_S16384x1024) bitsLt_bf16_f32
      (ix2 ⟨2048 * b.val + t.val, by omega⟩ ⟨128 * h.val + c.val, by omega⟩) = y (ix4 b t h c) := by
  show shapeCast S16384x1024 y shapeCasts_S8x2048x8x128_S16384x1024 _ = _
  refine shapeCast_apply _ _ _ _ ?_
  rw [Shape.rowMajor_val_two, Shape.rowMajor_val_four]
  show ((b.val * 2048 + t.val) * 8 + h.val) * 128 + c.val = (2048 * b.val + t.val) * 1024 + (128 * h.val + c.val)
  omega

theorem qk_at (x y : FVec Ideal S8x2048x3x8x128 .f32) (b : Fin 8) (g : Fin 3) (h : Fin 8) (t s : Fin 2048) :
    Host.dotGeneral dot_S8x2048x3x8x128_S8x2048x3x8x128_S8x3x8x2048x2048_4_4_1_1_023_023 none x y (ix5 b g h t s) =
      ∑ c : Fin 128, x (ix5 b t g h c) * y (ix5 b s g h c) := by
  pointwise!

theorem pv_at (x : FVec Ideal S8x3x8x2048x2048 .f32) (y : FVec Ideal S8x2048x3x8x128 .f32) (b : Fin 8) (g : Fin 3) (h : Fin 8) (t : Fin 2048) (c : Fin 128) :
    Host.dotGeneral dot_S8x3x8x2048x2048_S8x2048x3x8x128_S8x3x8x2048x128_4_1_3_4_012_023 none x y (ix5 b g h t c) =
      ∑ s : Fin 2048, x (ix5 b g h t s) * y (ix5 b s g h c) := by
  pointwise!

theorem max_at (x : FVec Ideal S8x3x8x2048x2048 .f32) (b : Fin 8) (g : Fin 3) (h : Fin 8) (t : Fin 2048) :
    broadcastInDim S8x3x8x2048x1 ![0, 1, 2, 3] bcast_S8x3x8x2048_S8x3x8x2048x1_0_1_2_3 (Host.reduce FloatOps.maximumf x (constant S_ .f32 0xFF800000#32) reducesTo_S8x3x8x2048x2048_S8x3x8x2048_d4 h_S_) (ix5 b g h t 0) =
      mx fun s : Fin 2048 => x (ix5 b g h t s) := by
  pointwise! [mx]

theorem sum_at (x : FVec Ideal S8x3x8x2048x2048 .f32) (b : Fin 8) (g : Fin 3) (h : Fin 8) (t : Fin 2048) :
    broadcastInDim S8x3x8x2048x1 ![0, 1, 2, 3] bcast_S8x3x8x2048_S8x3x8x2048x1_0_1_2_3 (Host.reduceAdd x (constant S_ .f32 0x00000000#32) reducesTo_S8x3x8x2048x2048_S8x3x8x2048_d4 h_S_) (ix5 b g h t 0) =
      ∑ s : Fin 2048, x (ix5 b g h t s) := by
  pointwise!

theorem sum3_at (x : FVec Ideal S8x3x8x2048x1 .f32) (b : Fin 8) (g : Fin 3) (h : Fin 8) (t : Fin 2048) :
    (broadcastInDim S8x3x8x2048x1 ![0, 1, 2, 3, 4] bcast_S8x1x8x2048x1_S8x3x8x2048x1_0_1_2_3_4 (broadcastInDim S8x1x8x2048x1 ![0, 2, 3, 4] bcast_S8x8x2048x1_S8x1x8x2048x1_0_2_3_4 (Host.reduceAdd x (constant S_ .f32 0x00000000#32) reducesTo_S8x3x8x2048x1_S8x8x2048x1_d1 h_S_))) (ix5 b g h t 0) =
      ∑ g' : Fin 3, x (ix5 b g' h t 0) := by
  pointwise!

theorem out_at (x : FVec Ideal S8x3x8x2048x128 .f32) (b : Fin 8) (h : Fin 8) (t : Fin 2048) (c : Fin 128) :
    (transpose S8x2048x8x128 [0, 2, 1, 3] (Host.reduceAdd x (constant S_ .f32 0x00000000#32) reducesTo_S8x3x8x2048x128_S8x8x2048x128_d1 h_S_) transposes_S8x8x2048x128_S8x2048x8x128_0_2_1_3)
      (ix4 b t h c) = ∑ g : Fin 3, x (ix5 b g h t c) := by
  pointwise!

theorem gather_at (x : FVec Ideal S32x24 .f32) (idx : IVec S2048x2048x1 32) (t s : Fin 2048) (k : Fin 24) :
    Host.gather gather_S32x24_S2048x2048x1_S2048x2048x24_2_0_n_n_0_2_124 x idx (ix3 t s k) =
      x (ix2 ⟨min (idx (ix3 t s 0)).toInt.toNat 31, by omega⟩ k) := by
  unfold Host.gather
  congr 1
  funext a
  refine Fin.ext ?_
  show GatherDims.start gather_S32x24_S2048x2048x1_S2048x2048x24_2_0_n_n_0_2_124 (ix3 t s k) idx a + GatherDims.batchCoord gather_S32x24_S2048x2048x1_S2048x2048x24_2_0_n_n_0_2_124 (ix3 t s k) a
      + GatherDims.offCoord gather_S32x24_S2048x2048x1_S2048x2048x24_2_0_n_n_0_2_124 (ix3 t s k) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x24_S2048x2048x1_S2048x2048x24_2_0_n_n_0_2_124.startIndexMap from List.mem_singleton.mpr rfl)]
    have hsi : gather_S32x24_S2048x2048x1_S2048x2048x24_2_0_n_n_0_2_124.siIdx (ix3 t s k) ⟨List.idxOf (0 : Fin 2) gather_S32x24_S2048x2048x1_S2048x2048x24_2_0_n_n_0_2_124.startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S32x24_S2048x2048x1_S2048x2048x24_2_0_n_n_0_2_124.startIndexMap from by decide)]
    simp only [Nat.zero_add, Nat.add_zero]
    rfl

theorem look_at (x : FVec Ideal S32x24 .f32) (w : IVec S2048x2048 32) (t s : Fin 2048) (k : Fin 24) (hw : (w (ix2 t s)).toNat < 32) :
    Host.gather gather_S32x24_S2048x2048x1_S2048x2048x24_2_0_n_n_0_2_124 x (broadcastInDim S2048x2048x1 ![0, 1] bcast_S2048x2048_S2048x2048x1_0_1 (select (cmpi .slt w (broadcastInDim S2048x2048 ![] bcast_S_S2048x2048 (constantI S_ 32 0#32))) (addi w (broadcastInDim S2048x2048 ![] bcast_S_S2048x2048 (constantI S_ 32 32#32))) w)) (ix3 t s k) =
      x (ix2 ⟨(w (ix2 t s)).toNat, hw⟩ k) := by
  have e : (broadcastInDim S2048x2048x1 ![0, 1] bcast_S2048x2048_S2048x2048x1_0_1 (select (cmpi .slt w (broadcastInDim S2048x2048 ![] bcast_S_S2048x2048 (constantI S_ 32 0#32))) (addi w (broadcastInDim S2048x2048 ![] bcast_S_S2048x2048 (constantI S_ 32 32#32))) w)) (ix3 t s 0) =
      if IntOp.cmpi .slt (w (ix2 t s)) 0#32 = 1#1 then IntOp.addi (w (ix2 t s)) 32#32 else w (ix2 t s) := by
    pointwise!
  have h0 : (w (ix2 t s)).slt 0#32 = false := by
    rw [BitVec.slt_eq_decide, BitVec.toInt_eq_toNat_cond, if_pos (by omega)]
    have : (0#32).toInt = 0 := rfl
    rw [this]; simp
  have h1 : IntOp.cmpi .slt (w (ix2 t s)) 0#32 = BitVec.ofBool ((w (ix2 t s)).slt 0#32) := rfl
  rw [h1, h0, if_neg (by decide)] at e
  rw [gather_at]
  congr 2
  refine Fin.ext ?_
  show min (BitVec.toInt _).toNat 31 = (w (ix2 t s)).toNat
  rw [e, BitVec.toInt_eq_toNat_cond, if_pos (by omega)]
  omega

theorem max3_at (x : FVec Ideal S8x3x8x2048x1 .f32) (b : Fin 8) (g : Fin 3) (h : Fin 8) (t : Fin 2048) :
    (broadcastInDim S8x3x8x2048x1 ![0, 1, 2, 3, 4] bcast_S8x1x8x2048x1_S8x3x8x2048x1_0_1_2_3_4 (broadcastInDim S8x1x8x2048x1 ![0, 2, 3, 4] bcast_S8x8x2048x1_S8x1x8x2048x1_0_2_3_4 (maximumf (broadcastInDim S8x8x2048x1 ![] bcast_S_S8x8x2048x1 (constant S_ .f32 0xFF800000#32)) (Host.reduce FloatOps.maximumf x (constant S_ .f32 0xFF800000#32) reducesTo_S8x3x8x2048x1_S8x8x2048x1_d1 h_S_)))) (ix5 b g h t 0) =
      mx fun g' : Fin 3 => x (ix5 b g' h t 0) := by
  pointwise! [mx]
  exact bot_sup_eq _

/-- The masked logits over variable operands. -/
def lgt (dist : IVec S2048x2048 32) (dl : IVec S3x1x1 32) (root : FVec Ideal S_ .f32) (qk : FVec Ideal S8x3x8x2048x2048 .f32) (bias : FVec Ideal S2048x2048x24 .f32) : FVec Ideal S8x3x8x2048x2048 .f32 :=
  select (broadcastInDim S8x3x8x2048x2048 ![0, 1, 2, 3, 4] bcast_S1x3x1x2048x2048_S8x3x8x2048x2048_0_1_2_3_4 (broadcastInDim S1x3x1x2048x2048 ![1, 3, 4] bcast_S3x2048x2048_S1x3x1x2048x2048_1_3_4 (andi (andi (broadcastInDim S3x2048x2048 ![0, 1, 2] bcast_S1x2048x2048_S3x2048x2048_0_1_2 (broadcastInDim S1x2048x2048 ![1, 2] bcast_S2048x2048_S1x2048x2048_1_2 (cmpi .sge dist (broadcastInDim S2048x2048 ![] bcast_S_S2048x2048 (constantI S_ 32 0#32))))) (cmpi .sle (broadcastInDim S3x2048x2048 ![0, 1, 2] bcast_S1x2048x2048_S3x2048x2048_0_1_2 (broadcastInDim S1x2048x2048 ![1, 2] bcast_S2048x2048_S1x2048x2048_1_2 dist)) (broadcastInDim S3x2048x2048 ![0, 1, 2] bcast_S3x1x1_S3x2048x2048_0_1_2 (muli (broadcastInDim S3x1x1 ![] bcast_S_S3x1x1 (constantI S_ 32 128#32)) dl)))) (cmpi .eq (Host.remsi (broadcastInDim S3x2048x2048 ![0, 1, 2] bcast_S1x2048x2048_S3x2048x2048_0_1_2 (broadcastInDim S1x2048x2048 ![1, 2] bcast_S2048x2048_S1x2048x2048_1_2 dist)) (broadcastInDim S3x2048x2048 ![0, 1, 2] bcast_S3x1x1_S3x2048x2048_0_1_2 dl)) (broadcastInDim S3x2048x2048 ![] bcast_S_S3x2048x2048 (constantI S_ 32 0#32)))))) (addf (Host.divf qk (broadcastInDim S8x3x8x2048x2048 ![] bcast_S_S8x3x8x2048x2048 root)) (broadcastInDim S8x3x8x2048x2048 ![0, 1, 2, 3, 4] bcast_S1x3x8x2048x2048_S8x3x8x2048x2048_0_1_2_3_4 (broadcastInDim S1x3x8x2048x2048 ![1, 2, 3, 4] bcast_S3x8x2048x2048_S1x3x8x2048x2048_1_2_3_4 (transpose S3x8x2048x2048 [2, 3, 0, 1] (shapeCast S2048x2048x3x8 bias shapeCasts_S2048x2048x24_S2048x2048x3x8) transposes_S2048x2048x3x8_S3x8x2048x2048_2_3_0_1)))) (broadcastInDim S8x3x8x2048x2048 ![] bcast_S_S8x3x8x2048x2048 (id (constant S_ .f32 0xFF800000#32)))

theorem lgt_at (dist : IVec S2048x2048 32) (dl : IVec S3x1x1 32) (root : FVec Ideal S_ .f32) (qk : FVec Ideal S8x3x8x2048x2048 .f32) (bias : FVec Ideal S2048x2048x24 .f32)
    (b : Fin 8) (g : Fin 3) (h : Fin 8) (t s : Fin 2048) : lgt dist dl root qk bias (ix5 b g h t s) =
    if IntOp.andi (IntOp.andi (IntOp.cmpi .sge (dist (ix2 t s)) 0#32) (IntOp.cmpi .sle (dist (ix2 t s)) (IntOp.muli 128#32 (dl (ix3 g 0 0)))))
      (IntOp.cmpi .eq (IntOp.remsi .host (dist (ix2 t s)) (dl (ix3 g 0 0))) 0#32) = 1#1 then
      Ideal.div (qk (ix5 b g h t s)) (root ix0) + bias (ix3 t s ⟨8 * g.val + h.val, by omega⟩)
    else Ideal.ofBits .f32 0xFF800000#32 := by
  pointwise! [lgt]

end Cert.Dil

end
-- ==== Proof.Band.lean ====
/- The reference's mask on words: query t, key s, dilation d. -/
module

public import proofs.«01_k».proof.Proof.Bucket

@[expose] public section

set_option maxRecDepth 16384

noncomputable section

namespace Cert.Dil

open Idealize.ShloMosaic

/-- The dilation of a head group. -/
def dil (g : Fin 3) : Nat := ![1, 4, 16] g

/-- Key `s` lies in query `t`'s dilated window. -/
def Band (d t s : Nat) : Prop := s ≤ t ∧ t - s ≤ 128 * d ∧ (t - s) % d = 0

instance (d t s : Nat) : Decidable (Band d t s) := by unfold Band; infer_instance

theorem dil_pos (g : Fin 3) : 0 < dil g := by fin_cases g <;> decide

theorem dil_le (g : Fin 3) : dil g ≤ 16 := by fin_cases g <;> decide

theorem and_bit (a b : Bool) : BitVec.ofBool a &&& BitVec.ofBool b = BitVec.ofBool (a && b) := by
  cases a <;> cases b <;> rfl

theorem bit_one (a : Bool) : BitVec.ofBool a = 1#1 ↔ a = true := by cases a <;> decide

theorem dist_word (t s : Nat) (hs : s ≤ t) : BitVec.ofNat 32 t - BitVec.ofNat 32 s = BitVec.ofNat 32 (t - s) := by
  apply BitVec.eq_of_toNat_eq
  rw [BitVec.toNat_sub, BitVec.toNat_ofNat, BitVec.toNat_ofNat, BitVec.toNat_ofNat]
  omega

theorem dist_neg (t s : Nat) (ht : t < 2048) (hs : s < 2048) : (BitVec.ofNat 32 t - BitVec.ofNat 32 s).toInt = (t : Int) - s := by
  rw [BitVec.toInt_sub, toInt_small _ (by omega), toInt_small _ (by omega), Int.bmod_def]
  omega

theorem rem_word (n d : Nat) (hn : n < 2048) (hd : 0 < d) (hd' : d ≤ 16) :
    IntOp.remsi .host (BitVec.ofNat 32 n) (BitVec.ofNat 32 d) = 0#32 ↔ n % d = 0 := by
  have en := toInt_small n (by omega)
  have ed := toInt_small d (by omega)
  have hc : ¬ IntOp.SDivCorner (BitVec.ofNat 32 n) (BitVec.ofNat 32 d) := by
    rintro (h | h)
    · rw [h] at ed
      have : (0#32).toInt = 0 := rfl
      rw [show ((0 : BitVec 32)).toInt = 0 from rfl] at ed
      omega
    · have h2 := h.2
      rw [h2] at ed
      have : ((-1 : BitVec 32)).toInt = -1 := rfl
      omega
  unfold IntOp.remsi
  rw [if_neg hc, ← BitVec.toInt_inj, BitVec.toInt_srem, en, ed]
  have e0 : (0#32).toInt = 0 := rfl
  rw [e0, ← Int.ofNat_tmod]
  exact Int.natCast_eq_zero

theorem valid_iff (g : Fin 3) (t s : Nat) (ht : t < 2048) (hs : s < 2048) :
    IntOp.andi (IntOp.andi (IntOp.cmpi .sge (BitVec.ofNat 32 t - BitVec.ofNat 32 s) 0#32)
      (IntOp.cmpi .sle (BitVec.ofNat 32 t - BitVec.ofNat 32 s) (IntOp.muli 128#32 (BitVec.ofNat 32 (dil g)))))
      (IntOp.cmpi .eq (IntOp.remsi .host (BitVec.ofNat 32 t - BitVec.ofNat 32 s) (BitVec.ofNat 32 (dil g))) 0#32) = 1#1 ↔ Band (dil g) t s := by
  have hd := dil_pos g
  have hd' := dil_le g
  show (BitVec.ofBool ((0#32).sle (BitVec.ofNat 32 t - BitVec.ofNat 32 s)) &&&
    BitVec.ofBool ((BitVec.ofNat 32 t - BitVec.ofNat 32 s).sle (BitVec.ofNat 32 128 * BitVec.ofNat 32 (dil g)))) &&&
    BitVec.ofBool (IntOp.remsi .host (BitVec.ofNat 32 t - BitVec.ofNat 32 s) (BitVec.ofNat 32 (dil g)) == 0#32) = 1#1 ↔ _
  rw [and_bit, and_bit, bit_one, Bool.and_eq_true, Bool.and_eq_true, BitVec.sle_eq_decide, BitVec.sle_eq_decide,
    decide_eq_true_eq, decide_eq_true_eq, beq_iff_eq, dist_neg t s ht hs, ← BitVec.ofNat_mul, toInt_small _ (by omega), toInt_small _ (by omega)]
  unfold Band
  by_cases h : s ≤ t
  · rw [dist_word t s h, rem_word _ _ (by omega) hd hd']
    constructor
    · rintro ⟨⟨_, h2⟩, h3⟩; exact ⟨h, by omega, h3⟩
    · rintro ⟨_, h2, h3⟩; exact ⟨⟨by omega, by omega⟩, h3⟩
  · constructor
    · rintro ⟨⟨h1, _⟩, _⟩; omega
    · rintro ⟨h1, _⟩; exact absurd h1 h

end Cert.Dil

end
-- ==== Proof.Ref.lean ====
/- The reference's result at a row and a column, as a softmax over all 2048 keys of the sequence per head group,
   merged over the three groups by the softmax of their log-sum-exps. -/
module

public import proofs.«01_k».proof.Proof.RefOps
public import proofs.«01_k».proof.Proof.Band

@[expose] public section

set_option maxRecDepth 16384

noncomputable section

namespace Cert.Dil

open Idealize.ShloMosaic Cert.ReferenceIdeal Cert.ReferenceIdeal.Gen Cert.ReferenceIdeal.Value

/-- 1/√128. -/
def scl : EReal := (((Real.sqrt 128)⁻¹ : ℝ) : EReal)

section

variable (q : FVec Ideal S16384x3072 .f32) (kv : FVec Ideal S16384x6144 .f32) (rb : FVec Ideal S32x24 .f32)

/-- Query t of batch row b: component c of head h of group g. -/
def qa (b : Fin 8) (t : Fin 2048) (g : Fin 3) (h : Fin 8) (c : Fin 128) : EReal :=
  q (ix2 ⟨2048 * b.val + t.val, by omega⟩ ⟨1024 * g.val + 128 * h.val + c.val, by omega⟩)

/-- Key (u = 0) or value (u = 1) s of batch row b. -/
def kva (b : Fin 8) (s : Fin 2048) (u : Fin 2) (g : Fin 3) (h : Fin 8) (c : Fin 128) : EReal :=
  kv (ix2 ⟨2048 * b.val + s.val, by omega⟩ ⟨3072 * u.val + 1024 * g.val + 128 * h.val + c.val, by omega⟩)

/-- The bias of a bucket for head h of group g. -/
def rba (n : Nat) (g : Fin 3) (h : Fin 8) : EReal :=
  if hn : n < 32 then rb (ix2 ⟨n, hn⟩ ⟨8 * g.val + h.val, by omega⟩) else ⊥

/-- The masked logits of a query. -/
def rlog (b : Fin 8) (g : Fin 3) (h : Fin 8) (t s : Fin 2048) : EReal :=
  if Band (dil g) t.val s.val then
    (∑ c, qa q b t g h c * kva kv b s 0 g h c) * scl + rba rb (bkt (BitVec.ofNat 32 (t.val - s.val))).toNat g h
  else ⊥

/-- The result: row b * 2048 + t, column h * 128 + c. -/
def rout (b : Fin 8) (h : Fin 8) (t : Fin 2048) (c : Fin 128) : EReal :=
  ∑ g : Fin 3, (∑ s, Ideal.div (wt (rlog q kv rb b g h t) s) (den (rlog q kv rb b g h t)) * kva kv b s 1 g h c) *
    Ideal.div (wt (fun g' => rowL (rlog q kv rb b g' h t)) g) (den fun g' => rowL (rlog q kv rb b g' h t))

end

theorem root_eq : (Host.sqrt (constant S_ .f32 0x43000000#32) : FVec Ideal S_ .f32) ix0 = ((Real.sqrt 128 : ℝ) : EReal) := by
  have e : Ideal.ofBits .f32 0x43000000#32 = ((128 : ℝ) : EReal) := by
    simp [Ideal.ofBits, Ideal.ieee, -EReal.coe_mul]; norm_num
  show Ideal.sqrt (Ideal.ofBits .f32 0x43000000#32) = _
  rw [e, Ideal.sqrt_coe, if_neg (by norm_num)]

variable (V0 : Valuation τ sig (Elt Ideal))

/-- The masked logits, the rows' maxima, weights, denominators and log-sum-exps, and the groups' weights. -/
abbrev a69 : FVec Ideal S8x3x8x2048x2048 .f32 := res_main_v69 (F := Ideal) V0
abbrev a71 : FVec Ideal S8x3x8x2048x1 .f32 := res_main_v71 (F := Ideal) V0
abbrev a74 : FVec Ideal S8x3x8x2048x2048 .f32 := res_main_v74 (F := Ideal) V0
abbrev a76 : FVec Ideal S8x3x8x2048x1 .f32 := res_main_v76 (F := Ideal) V0
abbrev a81 : FVec Ideal S8x3x8x2048x1 .f32 := res_main_v81 (F := Ideal) V0
abbrev a88 : FVec Ideal S8x3x8x2048x1 .f32 := res_main_v88 (F := Ideal) V0
abbrev a1 : FVec Ideal S8x2048x2x3x8x128 .f32 := res_main_v1 (F := Ideal) V0

theorem dist_at (t s : Fin 2048) : res_main_v13 (F := Ideal) V0 (ix2 t s) = BitVec.ofNat 32 t.val - BitVec.ofNat 32 s.val := by
  unfold res_main_v13
  pointwise!

theorem dil_at (g : Fin 3) : res_main_v6 (F := Ideal) V0 (ix3 g 0 0) = BitVec.ofNat 32 (dil g) := by
  have e : ∀ x : IVec S3 32, broadcastInDim S3x1x1 ![0] bcast_S3_S3x1x1_0 x (ix3 g 0 0) = x (ix1 g) := by
    intro x
    pointwise!
  unfold res_main_v6
  rw [e]
  fin_cases g <;> rfl

theorem bucket_at (t s : Fin 2048) (h : s.val ≤ t.val) : res_main_v51 (F := Ideal) V0 (ix2 t s) = bkt (BitVec.ofNat 32 (t.val - s.val)) := by
  have e : res_main_v51 (F := Ideal) V0 = bktG S2048x2048 bcast_S_S2048x2048 (res_main_v33 (F := Ideal) V0) := rfl
  have e2 : res_main_v33 (F := Ideal) V0 (ix2 t s) = IntOp.maxsi (res_main_v13 (F := Ideal) V0 (ix2 t s)) 0#32 := rfl
  rw [e, bktG_apply, e2, dist_at, maxsi_of_le, dist_word _ _ h]
  rw [dist_neg _ _ t.isLt s.isLt]
  have e0 : (0#32).toInt = 0 := rfl
  omega

theorem neg_inf : Ideal.ofBits .f32 0xFF800000#32 = ⊥ := rfl

theorem logit_at (b : Fin 8) (g : Fin 3) (h : Fin 8) (t s : Fin 2048) : a69 V0 (ix5 b g h t s) =
    rlog (V0 (Proc.devRef .tc main_arg0)) (V0 (Proc.devRef .tc main_arg1)) (V0 (Proc.devRef .tc main_arg2)) b g h t s := by
  have e : res_main_v69 (F := Ideal) V0 = lgt (res_main_v13 (F := Ideal) V0) (res_main_v6 (F := Ideal) V0) (Host.sqrt (constant S_ .f32 0x43000000#32))
      (Host.dotGeneral dot_S8x2048x3x8x128_S8x2048x3x8x128_S8x3x8x2048x2048_4_4_1_1_023_023 none
        (shapeCast S8x2048x3x8x128 (V0 (Proc.devRef .tc main_arg0)) shapeCasts_S16384x3072_S8x2048x3x8x128)
        (shapeCast S8x2048x3x8x128 (extractStridedSlice S8x2048x1x3x8x128 ![0, 0, 0, 0, 0, 0] (res_main_v1 (F := Ideal) V0) slices_S8x2048x2x3x8x128_S8x2048x1x3x8x128_0_0_0_0_0_0) shapeCasts_S8x2048x1x3x8x128_S8x2048x3x8x128))
      (Host.gather gather_S32x24_S2048x2048x1_S2048x2048x24_2_0_n_n_0_2_124 (V0 (Proc.devRef .tc main_arg2)) (broadcastInDim S2048x2048x1 ![0, 1] bcast_S2048x2048_S2048x2048x1_0_1 (select (cmpi .slt (res_main_v51 (F := Ideal) V0) (broadcastInDim S2048x2048 ![] bcast_S_S2048x2048 (constantI S_ 32 0#32))) (addi (res_main_v51 (F := Ideal) V0) (broadcastInDim S2048x2048 ![] bcast_S_S2048x2048 (constantI S_ 32 32#32))) (res_main_v51 (F := Ideal) V0)))) := rfl
  rw [show a69 V0 = _ from e, lgt_at, dist_at, dil_at, root_eq, neg_inf]
  unfold rlog
  by_cases hb : Band (dil g) t.val s.val
  · have hb' := hb
    obtain ⟨h1, h2, -⟩ := hb'
    have hlt : (bkt (BitVec.ofNat 32 (t.val - s.val))).toNat < 32 := bkt_lt _ (by omega)
    have hw : (res_main_v51 (F := Ideal) V0 (ix2 t s)).toNat < 32 := by rw [bucket_at V0 t s h1]; exact hlt
    rw [if_pos ((valid_iff g _ _ t.isLt s.isLt).mpr hb), if_pos hb, qk_at, look_at _ _ _ _ _ hw]
    congr 1
    · rw [Ideal.div_coe (Real.sqrt_pos.mpr (by norm_num)).ne', one_div]
      unfold scl
      congr 1
      refine Finset.sum_congr rfl fun c _ => ?_
      rw [q_at, key_at]
      congr 1
      exact kv_at _ b s 0 g h c
    · unfold rba
      rw [dif_pos hlt]
      congr 2
      exact Fin.ext (congrArg BitVec.toNat (bucket_at V0 t s h1))
  · rw [if_neg (fun hh => hb ((valid_iff g _ _ t.isLt s.isLt).mp hh)), if_neg hb]

theorem max_row (b : Fin 8) (g : Fin 3) (h : Fin 8) (t : Fin 2048) : a71 V0 (ix5 b g h t 0) =
    mx (rlog (V0 (Proc.devRef .tc main_arg0)) (V0 (Proc.devRef .tc main_arg1)) (V0 (Proc.devRef .tc main_arg2)) b g h t) := by
  refine (max_at (a69 V0) b g h t).trans ?_
  congr 1
  funext s
  exact logit_at V0 b g h t s

theorem wt_at (b : Fin 8) (g : Fin 3) (h : Fin 8) (t s : Fin 2048) : a74 V0 (ix5 b g h t s) =
    wt (rlog (V0 (Proc.devRef .tc main_arg0)) (V0 (Proc.devRef .tc main_arg1)) (V0 (Proc.devRef .tc main_arg2)) b g h t) s := by
  have e : ∀ (x : FVec Ideal S8x3x8x2048x2048 .f32) (y : FVec Ideal S8x3x8x2048x1 .f32),
      Host.exp (subf x (broadcastInDim S8x3x8x2048x2048 ![0, 1, 2, 3, 4] bcast_S8x3x8x2048x1_S8x3x8x2048x2048_0_1_2_3_4 y)) (ix5 b g h t s) =
      Ideal.exp (x (ix5 b g h t s) - y (ix5 b g h t 0)) := by
    intro x y
    pointwise!
  refine (e (a69 V0) (a71 V0)).trans ?_
  rw [logit_at, max_row]
  rfl

theorem den_at (b : Fin 8) (g : Fin 3) (h : Fin 8) (t : Fin 2048) : a76 V0 (ix5 b g h t 0) =
    den (rlog (V0 (Proc.devRef .tc main_arg0)) (V0 (Proc.devRef .tc main_arg1)) (V0 (Proc.devRef .tc main_arg2)) b g h t) := by
  refine (sum_at (a74 V0) b g h t).trans ?_
  exact Finset.sum_congr rfl fun s _ => wt_at V0 b g h t s

theorem lse_at (b : Fin 8) (g : Fin 3) (h : Fin 8) (t : Fin 2048) : a81 V0 (ix5 b g h t 0) =
    rowL (rlog (V0 (Proc.devRef .tc main_arg0)) (V0 (Proc.devRef .tc main_arg1)) (V0 (Proc.devRef .tc main_arg2)) b g h t) := by
  have e : ∀ x y : FVec Ideal S8x3x8x2048x1 .f32, addf x (Host.log y) (ix5 b g h t 0) = x (ix5 b g h t 0) + Ideal.log (y (ix5 b g h t 0)) := fun _ _ => rfl
  refine (e (a71 V0) (a76 V0)).trans ?_
  rw [max_row, den_at]
  rfl

theorem gate_at (b : Fin 8) (g : Fin 3) (h : Fin 8) (t : Fin 2048) : a88 V0 (ix5 b g h t 0) =
    wt (fun g' => rowL (rlog (V0 (Proc.devRef .tc main_arg0)) (V0 (Proc.devRef .tc main_arg1)) (V0 (Proc.devRef .tc main_arg2)) b g' h t)) g := by
  have e : ∀ x y : FVec Ideal S8x3x8x2048x1 .f32, Host.exp (subf x y) (ix5 b g h t 0) = Ideal.exp (x (ix5 b g h t 0) - y (ix5 b g h t 0)) := fun _ _ => rfl
  have e2 : (fun g' => a81 V0 (ix5 b g' h t 0)) = fun g' => rowL (rlog (V0 (Proc.devRef .tc main_arg0)) (V0 (Proc.devRef .tc main_arg1)) (V0 (Proc.devRef .tc main_arg2)) b g' h t) :=
    funext fun g' => lse_at V0 b g' h t
  refine (e (a81 V0) _).trans ?_
  rw [max3_at, e2, lse_at]
  rfl

/-- The reference's result. -/
def res : FVec Ideal S16384x1024 .bf16 :=
  truncf .bf16 (shapeCast S16384x1024 (transpose S8x2048x8x128 [0, 2, 1, 3] (Host.reduceAdd (mulf (Host.dotGeneral dot_S8x3x8x2048x2048_S8x2048x3x8x128_S8x3x8x2048x128_4_1_3_4_012_023 none (Host.divf (a74 V0) (broadcastInDim S8x3x8x2048x2048 ![0, 1, 2, 3, 4] bcast_S8x3x8x2048x1_S8x3x8x2048x2048_0_1_2_3_4 (a76 V0))) (shapeCast S8x2048x3x8x128 (extractStridedSlice S8x2048x1x3x8x128 ![0, 0, 1, 0, 0, 0] (a1 V0) slices_S8x2048x2x3x8x128_S8x2048x1x3x8x128_0_0_1_0_0_0) shapeCasts_S8x2048x1x3x8x128_S8x2048x3x8x128)) (broadcastInDim S8x3x8x2048x128 ![0, 1, 2, 3, 4] bcast_S8x3x8x2048x1_S8x3x8x2048x128_0_1_2_3_4 (Host.divf (a88 V0) (broadcastInDim S8x3x8x2048x1 ![0, 1, 2, 3, 4] bcast_S8x1x8x2048x1_S8x3x8x2048x1_0_1_2_3_4 (broadcastInDim S8x1x8x2048x1 ![0, 2, 3, 4] bcast_S8x8x2048x1_S8x1x8x2048x1_0_2_3_4 (Host.reduceAdd (a88 V0) (constant S_ .f32 0x00000000#32) reducesTo_S8x3x8x2048x1_S8x8x2048x1_d1 h_S_)))))) (constant S_ .f32 0x00000000#32) reducesTo_S8x3x8x2048x128_S8x8x2048x128_d1 h_S_) transposes_S8x8x2048x128_S8x2048x8x128_0_2_1_3) shapeCasts_S8x2048x8x128_S16384x1024) bitsLt_bf16_f32

theorem res_at (b : Fin 8) (h : Fin 8) (t : Fin 2048) (c : Fin 128) :
    res V0 (ix2 ⟨2048 * b.val + t.val, by omega⟩ ⟨128 * h.val + c.val, by omega⟩) =
      rout (V0 (Proc.devRef .tc main_arg0)) (V0 (Proc.devRef .tc main_arg1)) (V0 (Proc.devRef .tc main_arg2)) b h t c := by
  have e1 : ∀ (x : FVec Ideal S8x3x8x2048x2048 .f32) (y : FVec Ideal S8x3x8x2048x1 .f32) (g : Fin 3) (s : Fin 2048),
      Host.divf x (broadcastInDim S8x3x8x2048x2048 ![0, 1, 2, 3, 4] bcast_S8x3x8x2048x1_S8x3x8x2048x2048_0_1_2_3_4 y) (ix5 b g h t s) =
      Ideal.div (x (ix5 b g h t s)) (y (ix5 b g h t 0)) := by
    intro x y g s
    pointwise!
  have e2 : ∀ (x : FVec Ideal S8x3x8x2048x128 .f32) (y z : FVec Ideal S8x3x8x2048x1 .f32) (g : Fin 3),
      mulf x (broadcastInDim S8x3x8x2048x128 ![0, 1, 2, 3, 4] bcast_S8x3x8x2048x1_S8x3x8x2048x128_0_1_2_3_4 (Host.divf y z)) (ix5 b g h t c) =
      x (ix5 b g h t c) * Ideal.div (y (ix5 b g h t 0)) (z (ix5 b g h t 0)) := by
    intro x y z g
    pointwise!
  unfold res rout
  rw [flat_at, out_at]
  refine Finset.sum_congr rfl fun g _ => ?_
  rw [e2, pv_at, gate_at, sum3_at]
  refine congrArg₂ (fun x y : EReal => x * y) ?_ ?_
  · refine Finset.sum_congr rfl fun s _ => ?_
    rw [e1, wt_at, den_at, val_at]
    exact congrArg (fun x : EReal => _ * x) (kv_at _ b s 1 g h c)
  · exact congrArg (Ideal.div _) (Finset.sum_congr rfl fun g' _ => gate_at V0 b g' h t)

end Cert.Dil

end
-- ==== Proof.Window.lean ====
/- A query's row over the 256 keys that the kernel's block reads and its row over all 2048 keys of the sequence have
   the same maximum, denominator and weighted sum: a key outside the window has the logit −∞ and the weight 0. -/
module

public import proofs.«01_k».proof.Proof.Group
public import proofs.«01_k».proof.Proof.Ref

@[expose] public section

set_option maxRecDepth 16384

noncomputable section

namespace Cert.Dil

open Idealize.ShloMosaic

/-! ## Rows that agree up to masked keys -/

/-- The keys `j` with `ok j` of the row `s₁` are, through `σ`, the keys of the row `s₂` that are not masked. -/
structure Same {n N : Nat} (s₁ : Fin n → EReal) (s₂ : Fin N → EReal) (ok : Fin n → Prop) (σ : Fin n → Fin N) : Prop where
  off : ∀ j, ¬ ok j → s₁ j = ⊥
  eq : ∀ j, ok j → s₁ j = s₂ (σ j)
  inj : ∀ j j', ok j → ok j' → σ j = σ j' → j = j'
  cover : ∀ s, s₂ s ≠ ⊥ → ∃ j, ok j ∧ σ j = s

theorem wt_bot {n : Nat} {s : Fin n → EReal} {j : Fin n} (h : s j = ⊥) : wt s j = 0 := by
  unfold wt
  rw [h, sub_eq_add_neg, EReal.bot_add]; exact Ideal.exp_bot

namespace Same

variable {n N : Nat} {s₁ : Fin n → EReal} {s₂ : Fin N → EReal} {ok : Fin n → Prop} {σ : Fin n → Fin N} (h : Same s₁ s₂ ok σ)

include h

theorem mx_eq : mx s₁ = mx s₂ := by
  rw [mx_eq_sup, mx_eq_sup]
  apply le_antisymm
  · refine Finset.sup_le fun j _ => ?_
    by_cases hj : ok j
    · rw [h.eq j hj]; exact Finset.le_sup (f := s₂) (Finset.mem_univ _)
    · rw [h.off j hj]; exact bot_le
  · refine Finset.sup_le fun s _ => ?_
    by_cases hs : s₂ s = ⊥
    · rw [hs]; exact bot_le
    · obtain ⟨j, hj, rfl⟩ := h.cover s hs
      rw [← h.eq j hj]; exact Finset.le_sup (f := s₁) (Finset.mem_univ _)

theorem wt_eq (j : Fin n) (hj : ok j) : wt s₁ j = wt s₂ (σ j) := by
  unfold wt
  rw [h.mx_eq, h.eq j hj]

theorem sum_eq (v₁ : Fin n → EReal) (v₂ : Fin N → EReal) (hv : ∀ j, ok j → v₁ j = v₂ (σ j)) :
    ∑ j, wt s₁ j * v₁ j = ∑ s, wt s₂ s * v₂ s := by
  have hok : ∀ j, wt s₁ j * v₁ j ≠ 0 → ok j := fun j hj => by
    by_contra hn
    exact hj (by rw [wt_bot (h.off j hn), zero_mul])
  refine Finset.sum_bij_ne_zero (fun j _ _ => σ j) (fun _ _ _ => Finset.mem_univ _) ?_ ?_ ?_
  · intro j _ hj j' _ hj' e
    exact h.inj j j' (hok j hj) (hok j' hj') e
  · intro s _ hs
    have : s₂ s ≠ ⊥ := fun hb => hs (by rw [wt_bot hb, zero_mul])
    obtain ⟨j, hj, rfl⟩ := h.cover s this
    exact ⟨j, Finset.mem_univ _, by rw [h.wt_eq j hj, hv j hj]; exact hs, rfl⟩
  · intro j _ hj
    rw [h.wt_eq j (hok j hj), hv j (hok j hj)]

theorem den_eq : den s₁ = den s₂ := by
  have e := h.sum_eq (fun _ => 1) (fun _ => 1) fun _ _ => rfl
  simp only [mul_one] at e
  exact e

theorem rowL_eq : rowL s₁ = rowL s₂ := by
  unfold rowL; rw [h.mx_eq, h.den_eq]

theorem rowO_eq (v₁ : Fin n → EReal) (v₂ : Fin N → EReal) (hv : ∀ j, ok j → v₁ j = v₂ (σ j)) : rowO s₁ v₁ = rowO s₂ v₂ := by
  unfold rowO; rw [h.den_eq, h.sum_eq v₁ v₂ hv]

end Same

/-! ## The window's keys -/

/-- Key `j` of the block of query `t`. -/
def key (d t j : Nat) : Nat := d * (128 * (t / d / 128) + j - 128) + t % d

/-- Key `j` lies in the window and in the sequence. -/
def InWin (d t j : Nat) : Prop := ¬ (t / d / 128 = 0 ∧ j < 128) ∧ t / d % 128 ≤ j ∧ j ≤ t / d % 128 + 128

theorem key_win (g : Fin 3) (t j : Nat) (h : InWin (dil g) t j) :
    key (dil g) t j ≤ t ∧ t - key (dil g) t j = dil g * (t / dil g % 128 + 128 - j) ∧ Band (dil g) t (key (dil g) t j) := by
  have hd : dil g = 1 ∨ dil g = 4 ∨ dil g = 16 := by fin_cases g <;> simp [dil]
  unfold InWin at h
  unfold Band key
  rcases hd with e | e | e <;> rw [e] at h ⊢ <;> omega

theorem key_inj (g : Fin 3) (t j j' : Nat) (h : InWin (dil g) t j) (h' : InWin (dil g) t j') (e : key (dil g) t j = key (dil g) t j') : j = j' := by
  have hd : dil g = 1 ∨ dil g = 4 ∨ dil g = 16 := by fin_cases g <;> simp [dil]
  unfold InWin at h h'
  unfold key at e
  rcases hd with e' | e' | e' <;> rw [e'] at h h' e <;> omega

theorem key_cover (g : Fin 3) (t s : Nat) (h : Band (dil g) t s) : ∃ j < 256, InWin (dil g) t j ∧ key (dil g) t j = s := by
  have hd : dil g = 1 ∨ dil g = 4 ∨ dil g = 16 := by fin_cases g <;> simp [dil]
  unfold Band at h
  refine ⟨t / dil g % 128 + 128 - (t - s) / dil g, ?_⟩
  unfold InWin key
  rcases hd with e | e | e <;> rw [e] at h ⊢ <;> omega

/-! ## A head group -/

section

variable (q : FVec Ideal Cert.ReferenceIdeal.S16384x3072 .f32) (kv : FVec Ideal Cert.ReferenceIdeal.S16384x6144 .f32) (rb : FVec Ideal Cert.ReferenceIdeal.S32x24 .f32)
  (b : Fin 8) (g : Fin 3) (h : Fin 8)
  {B : Cert.KernelIdeal.S128x256.Idx → EReal} {xq xk xv : Cert.KernelIdeal.S2048x128.Idx → EReal}
  (hB : ∀ i j, B (ix2 i j) = if i.val ≤ j.val ∧ j.val ≤ i.val + 128 then rba rb (bkt (BitVec.ofNat 32 (dil g * (i.val + 128 - j.val)))).toNat g h else ⊥)
  (hq : ∀ t c, xq (ix2 t c) = qa q b t g h c) (hk : ∀ t c, xk (ix2 t c) = kva kv b t 0 g h c) (hv : ∀ t c, xv (ix2 t c) = kva kv b t 1 g h c)

theorem tok_lt (x : Cert.KernelIdeal.S2048x128.Idx → EReal) {t : Nat} (ht : t < 2048) (c : Fin 128) : tok x t c = x (ix2 ⟨t, ht⟩ c) :=
  dif_pos ht

theorem scale_eq : scale = scl := rfl

include hB hq hk in
theorem same_row (t : Fin 2048) : Same (lgs (dil g) B xq xk (t.val % dil g) (t.val / dil g / 128) ⟨t.val / dil g % 128, Nat.mod_lt _ (by omega)⟩)
    (rlog q kv rb b g h t) (fun j => InWin (dil g) t.val j.val) (fun j => ⟨min (key (dil g) t.val j.val) 2047, by omega⟩) := by
  have ht := t.isLt
  have hval : ∀ j : Fin 256, InWin (dil g) t.val j.val → min (key (dil g) t.val j.val) 2047 = key (dil g) t.val j.val := fun j hj => by
    have := (key_win g _ _ hj).1
    omega
  have eqt : dil g * (128 * (t.val / dil g / 128) + t.val / dil g % 128) + t.val % dil g = t.val := by
    rw [Nat.div_add_mod, Nat.div_add_mod]
  constructor
  · intro j hj
    unfold lgs
    by_cases hn : t.val / dil g / 128 = 0 ∧ j.val < 128
    · rw [if_pos hn]
    · rw [if_neg hn, hB, if_neg (fun hh => hj ⟨hn, hh.1, hh.2⟩), EReal.add_bot]
  · intro j hj
    obtain ⟨h1, h2, h3⟩ := key_win g _ _ hj
    unfold lgs rlog
    rw [if_neg hj.1, hB, if_pos ⟨hj.2.1, hj.2.2⟩, if_pos (by simp only [hval j hj]; exact h3), scale_eq]
    simp only [hval j hj, h2]
    congr 2
    refine Finset.sum_congr rfl fun c _ => ?_
    have e1 : tok xq (dil g * (128 * (t.val / dil g / 128) + t.val / dil g % 128) + t.val % dil g) c = qa q b t g h c := by
      rw [eqt, tok, dif_pos ht]; exact hq t c
    have e2 : tok xk (dil g * (128 * (t.val / dil g / 128) + j.val - 128) + t.val % dil g) c =
        kva kv b ⟨key (dil g) t.val j.val, by omega⟩ 0 g h c := by
      exact (tok_lt xk (show key (dil g) t.val j.val < 2048 by omega) c).trans (hk _ c)
    rw [e1, e2]
  · intro j j' hj hj' e
    have e' : min (key (dil g) t.val j.val) 2047 = min (key (dil g) t.val j'.val) 2047 := congrArg Fin.val e
    rw [hval j hj, hval j' hj'] at e'
    exact Fin.ext (key_inj g _ _ _ hj hj' e')
  · intro s hs
    have hb : Band (dil g) t.val s.val := by
      by_contra hb
      exact hs (by unfold rlog; rw [if_neg hb])
    obtain ⟨j, hj, hw, e⟩ := key_cover g _ _ hb
    exact ⟨⟨j, hj⟩, hw, Fin.ext (by show min (key (dil g) t.val j) 2047 = s.val; omega)⟩

include hB hq hk in
theorem gL_eq (t : Fin 2048) : gL (dil g) B xq xk t.val = rowL (rlog q kv rb b g h t) :=
  (same_row q kv rb b g h hB hq hk t).rowL_eq

include hB hq hk hv in
theorem gO_eq (t : Fin 2048) (c : Fin 128) : gO (dil g) B xq xk xv t.val c = rowO (rlog q kv rb b g h t) fun s => kva kv b s 1 g h c := by
  refine (same_row q kv rb b g h hB hq hk t).rowO_eq _ _ fun j hj => ?_
  have h1 := (key_win g _ _ hj).1
  have ht := t.isLt
  unfold vls
  rw [if_neg hj.1]
  refine (tok_lt xv (show key (dil g) t.val j.val < 2048 by omega) c).trans ((hv _ c).trans ?_)
  congr 1
  exact Fin.ext (by show key (dil g) t.val j.val = min (key (dil g) t.val j.val) 2047; omega)

end

end Cert.Dil

end
-- ==== Proof.Inputs.lean ====
/- What the kernel's windows hold at a grid point: point `t` is one sequence and one head. -/
module

public import proofs.«01_k».proof.Proof.Gen.KernelIdeal.Value
public import proofs.«01_k».proof.Proof.Bias
public import proofs.«01_k».proof.Proof.Table
public import proofs.«01_k».proof.Proof.Bucket
public import proofs.«01_k».proof.Proof.Window

@[expose] public section

set_option maxRecDepth 16384

noncomputable section

namespace Cert.Dil

open Idealize.ShloMosaic Idealize.ShloMosaic.TcCoe Cert.KernelIdeal Cert.KernelIdeal.Gen

/-- The point's sequence. -/
abbrev seqOf (t : Fin cfg0.N) : Fin 8 := grid0.coords t 0

/-- The point's head. -/
abbrev headOf (t : Fin cfg0.N) : Fin 8 := grid0.coords t 1

theorem points (b h : Fin 8) : ∃ t : Fin cfg0.N, (seqOf t).val = b.val ∧ (headOf t).val = h.val :=
  ⟨⟨8 * b.val + h.val, by rw [show cfg0.N = 64 from by decide]; omega⟩,
    (by decide +kernel : ∀ b h : Fin 8, (grid0.coords ⟨8 * b.val + h.val, by rw [show grid0.N = 64 from by decide]; omega⟩ 0).val = b.val ∧
      (grid0.coords ⟨8 * b.val + h.val, by rw [show grid0.N = 64 from by decide]; omega⟩ 1).val = h.val) b h⟩

theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index_2 : ∀ t : Fin cfg0.N, win0_2.index t 0 = (seqOf t).val ∧ win0_2.index t 1 = (headOf t).val :=
  (by decide +kernel : ∀ t : Fin grid0.N, win0_2.index t 0 = (grid0.coords t 0).val ∧ win0_2.index t 1 = (grid0.coords t 1).val)
theorem index_3 : ∀ t : Fin cfg0.N, win0_3.index t 0 = (seqOf t).val ∧ win0_3.index t 1 = 8 + (headOf t).val :=
  (by decide +kernel : ∀ t : Fin grid0.N, win0_3.index t 0 = (grid0.coords t 0).val ∧ win0_3.index t 1 = 8 + (grid0.coords t 1).val)
theorem index_4 : ∀ t : Fin cfg0.N, win0_4.index t 0 = (seqOf t).val ∧ win0_4.index t 1 = 16 + (headOf t).val :=
  (by decide +kernel : ∀ t : Fin grid0.N, win0_4.index t 0 = (grid0.coords t 0).val ∧ win0_4.index t 1 = 16 + (grid0.coords t 1).val)
theorem index_5 : ∀ t : Fin cfg0.N, win0_5.index t 0 = (seqOf t).val ∧ win0_5.index t 1 = (headOf t).val :=
  (by decide +kernel : ∀ t : Fin grid0.N, win0_5.index t 0 = (grid0.coords t 0).val ∧ win0_5.index t 1 = (grid0.coords t 1).val)
theorem index_6 : ∀ t : Fin cfg0.N, win0_6.index t 0 = (seqOf t).val ∧ win0_6.index t 1 = 8 + (headOf t).val :=
  (by decide +kernel : ∀ t : Fin grid0.N, win0_6.index t 0 = (grid0.coords t 0).val ∧ win0_6.index t 1 = 8 + (grid0.coords t 1).val)
theorem index_7 : ∀ t : Fin cfg0.N, win0_7.index t 0 = (seqOf t).val ∧ win0_7.index t 1 = 16 + (headOf t).val :=
  (by decide +kernel : ∀ t : Fin grid0.N, win0_7.index t 0 = (grid0.coords t 0).val ∧ win0_7.index t 1 = 16 + (grid0.coords t 1).val)
theorem index_8 : ∀ t : Fin cfg0.N, win0_8.index t 0 = (seqOf t).val ∧ win0_8.index t 1 = 24 + (headOf t).val :=
  (by decide +kernel : ∀ t : Fin grid0.N, win0_8.index t 0 = (grid0.coords t 0).val ∧ win0_8.index t 1 = 24 + (grid0.coords t 1).val)
theorem index_9 : ∀ t : Fin cfg0.N, win0_9.index t 0 = (seqOf t).val ∧ win0_9.index t 1 = 32 + (headOf t).val :=
  (by decide +kernel : ∀ t : Fin grid0.N, win0_9.index t 0 = (grid0.coords t 0).val ∧ win0_9.index t 1 = 32 + (grid0.coords t 1).val)
theorem index_10 : ∀ t : Fin cfg0.N, win0_10.index t 0 = (seqOf t).val ∧ win0_10.index t 1 = 40 + (headOf t).val :=
  (by decide +kernel : ∀ t : Fin grid0.N, win0_10.index t 0 = (grid0.coords t 0).val ∧ win0_10.index t 1 = 40 + (grid0.coords t 1).val)
theorem index_11 : ∀ t : Fin cfg0.N, win0_11.index t 0 = (seqOf t).val ∧ win0_11.index t 1 = (headOf t).val :=
  (by decide +kernel : ∀ t : Fin grid0.N, win0_11.index t 0 = (grid0.coords t 0).val ∧ win0_11.index t 1 = (grid0.coords t 1).val)

variable (m : (ℓ : Loc nD τ sig) → Buf (Elt Ideal) ℓ) (c : Dev nD) (t : Fin cfg0.N)

theorem blk_0 (j : S32x24.Idx) : iblk m c 0 t j = m ((c : Thread nD τ).loc main_arg2) j := by
  obtain ⟨e0, e1⟩ := index_0 t
  show V m c main_arg2 (((cfg0.win 0).blk t).view.emb j) = _
  rw [V_main_arg2]
  congr 1
  funext a; apply Fin.ext
  match a with
  | ⟨0, _⟩ => show win0_0.index t (0 : Fin 2) * 32 + 1 * (j 0).val = (j 0).val; omega
  | ⟨1, _⟩ => show win0_0.index t (1 : Fin 2) * 24 + 1 * (j 1).val = (j 1).val; omega

theorem blk_1 (j : S3x128x256.Idx) : iblk m c 1 t j = V m c main_v86 j := by
  obtain ⟨e0, e1, e2⟩ := index_1 t
  show V m c main_v86 (((cfg0.win 1).blk t).view.emb j) = _
  congr 1
  funext a; apply Fin.ext
  match a with
  | ⟨0, _⟩ => show win0_1.index t (0 : Fin 3) * 3 + 1 * (j 0).val = (j 0).val; omega
  | ⟨1, _⟩ => show win0_1.index t (1 : Fin 3) * 128 + 1 * (j 1).val = (j 1).val; omega
  | ⟨2, _⟩ => show win0_1.index t (2 : Fin 3) * 256 + 1 * (j 2).val = (j 2).val; omega

/-- Entry `(s, l)` of a block of 2048 rows and 128 columns at block index `(i₀, i₁)`. -/
theorem place {n : Nat} (x : (⟨2, ![16384, n]⟩ : Shape).Idx) {i₀ i₁ b k : Nat} {s : Fin 2048} {l : Fin 128} (h0 : (x 0).val = i₀ * 2048 + 1 * s.val)
    (h1 : (x 1).val = i₁ * 128 + 1 * l.val) (e : i₀ = b ∧ i₁ = k) {r : Fin 16384} {o : Fin n} (hr : r.val = 2048 * b + s.val) (ho : o.val = 128 * k + l.val) :
    x = ix2 r o := by
  funext a; apply Fin.ext
  match a with
  | ⟨0, _⟩ => show (x 0).val = r.val; omega
  | ⟨1, _⟩ => show (x 1).val = o.val; omega

section

variable (s : Fin 2048) (l : Fin 128)

theorem blk_2 : iblk m c 2 t (ix2 s l) = qa (m ((c : Thread nD τ).loc main_arg0)) (seqOf t) s 0 (headOf t) l :=
  (congrFun (V_main_arg0 m c) _).trans (congrArg _ (place (s := s) (l := l) _ rfl rfl (index_2 t) rfl (by show 1024 * 0 + 128 * (headOf t).val + l.val = _; omega)))

theorem blk_3 : iblk m c 3 t (ix2 s l) = qa (m ((c : Thread nD τ).loc main_arg0)) (seqOf t) s 1 (headOf t) l :=
  (congrFun (V_main_arg0 m c) _).trans (congrArg _ (place (s := s) (l := l) _ rfl rfl (index_3 t) rfl (by show 1024 * 1 + 128 * (headOf t).val + l.val = _; omega)))

theorem blk_4 : iblk m c 4 t (ix2 s l) = qa (m ((c : Thread nD τ).loc main_arg0)) (seqOf t) s 2 (headOf t) l :=
  (congrFun (V_main_arg0 m c) _).trans (congrArg _ (place (s := s) (l := l) _ rfl rfl (index_4 t) rfl (by show 1024 * 2 + 128 * (headOf t).val + l.val = _; omega)))

theorem blk_5 : iblk m c 5 t (ix2 s l) = kva (m ((c : Thread nD τ).loc main_arg1)) (seqOf t) s 0 0 (headOf t) l :=
  (congrFun (V_main_arg1 m c) _).trans (congrArg _ (place (s := s) (l := l) _ rfl rfl (index_5 t) rfl (by show 3072 * 0 + 1024 * 0 + 128 * (headOf t).val + l.val = _; omega)))

theorem blk_6 : iblk m c 6 t (ix2 s l) = kva (m ((c : Thread nD τ).loc main_arg1)) (seqOf t) s 0 1 (headOf t) l :=
  (congrFun (V_main_arg1 m c) _).trans (congrArg _ (place (s := s) (l := l) _ rfl rfl (index_6 t) rfl (by show 3072 * 0 + 1024 * 1 + 128 * (headOf t).val + l.val = _; omega)))

theorem blk_7 : iblk m c 7 t (ix2 s l) = kva (m ((c : Thread nD τ).loc main_arg1)) (seqOf t) s 0 2 (headOf t) l :=
  (congrFun (V_main_arg1 m c) _).trans (congrArg _ (place (s := s) (l := l) _ rfl rfl (index_7 t) rfl (by show 3072 * 0 + 1024 * 2 + 128 * (headOf t).val + l.val = _; omega)))

theorem blk_8 : iblk m c 8 t (ix2 s l) = kva (m ((c : Thread nD τ).loc main_arg1)) (seqOf t) s 1 0 (headOf t) l :=
  (congrFun (V_main_arg1 m c) _).trans (congrArg _ (place (s := s) (l := l) _ rfl rfl (index_8 t) rfl (by show 3072 * 1 + 1024 * 0 + 128 * (headOf t).val + l.val = _; omega)))

theorem blk_9 : iblk m c 9 t (ix2 s l) = kva (m ((c : Thread nD τ).loc main_arg1)) (seqOf t) s 1 1 (headOf t) l :=
  (congrFun (V_main_arg1 m c) _).trans (congrArg _ (place (s := s) (l := l) _ rfl rfl (index_9 t) rfl (by show 3072 * 1 + 1024 * 1 + 128 * (headOf t).val + l.val = _; omega)))

theorem blk_10 : iblk m c 10 t (ix2 s l) = kva (m ((c : Thread nD τ).loc main_arg1)) (seqOf t) s 1 2 (headOf t) l :=
  (congrFun (V_main_arg1 m c) _).trans (congrArg _ (place (s := s) (l := l) _ rfl rfl (index_10 t) rfl (by show 3072 * 1 + 1024 * 2 + 128 * (headOf t).val + l.val = _; omega)))

end

/-! ## The bias of a head group -/

/-- The kernel's bias: in the window the bias of the distance's bucket, outside −∞. -/
theorem bias_at (arg2 : Memref sig .tc .smem S32x24 .f32) (harg2 : arg2.IsWhole) (arg3 : Memref sig .tc .vmem S3x128x256 .i32) (harg3 : arg3.IsWhole) (g : Fin 3)
    (i : Fin 128) (j : Fin 256) :
    chain (words arg3 harg3 (iblk m c 1 t) g.val g.isLt) (entry (grid0.coords t) arg2 harg2 (iblk m c 0 t) g.val g.isLt) 32 (ix2 i j) =
      if i.val ≤ j.val ∧ j.val ≤ i.val + 128 then
        rba (m ((c : Thread nD τ).loc main_arg2)) (bkt (BitVec.ofNat 32 (dil g * (i.val + 128 - j.val)))).toNat g (headOf t) else ⊥ := by
  have hd : dil g ≤ 16 := dil_le g
  have ew : words arg3 harg3 (iblk m c 1 t) g.val g.isLt (ix2 i j) = tabV (BitVec.ofNat 32 (dil g)) (ix3 0 i j) := by
    rw [words_eq]
    refine (blk_1 m c t _).trans ?_
    rw [table_eq]
    fin_cases g
    · exact cat_0 _ _ _ i j
    · exact cat_1 _ _ _ i j
    · exact cat_2 _ _ _ i j
  rw [chain_apply _ _ _ 32 le_rfl, ew, tabV_eq _ hd]
  by_cases hw : i.val ≤ j.val ∧ j.val ≤ i.val + 128
  · rw [if_pos hw, if_pos hw]
    have hb : (bkt (BitVec.ofNat 32 (dil g * (i.val + 128 - j.val)))).toNat < 32 := bkt_lt _ (by
      have h1 : i.val + 128 - j.val ≤ 128 := by omega
      calc dil g * (i.val + 128 - j.val) ≤ 16 * 128 := Nat.mul_le_mul hd h1
        _ = 2048 := rfl)
    rw [if_pos hb, entry_eq _ _ _ _ _ _ _ hb, rba, dif_pos hb]
    exact blk_0 m c t _
  · rw [if_neg hw, if_neg hw]
    exact if_neg (by decide)

end Cert.Dil

end
-- ==== Proof.Finite.lean ====
/- Finite arguments give rows of logits, and on those the kernel's merge is the reference's sum. -/
module

public import proofs.«01_k».proof.Defs
public import proofs.«01_k».proof.Proof.Gen.Pre_finite
public import proofs.«01_k».proof.Proof.Bucket
public import proofs.«01_k».proof.Proof.Ref
public import Idealize.ShloMosaic.Lib.ReduceAll

@[expose] public section

set_option maxRecDepth 16384

noncomputable section

namespace Cert.Dil

open Idealize.ShloMosaic

theorem real_of_abs (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

section

variable (q : FVec Ideal Cert.ReferenceIdeal.S16384x3072 .f32) (kv : FVec Ideal Cert.ReferenceIdeal.S16384x6144 .f32) (rb : FVec Ideal Cert.ReferenceIdeal.S32x24 .f32)

/-- The arguments' entries that a logit reads are real numbers. -/
structure Real3 : Prop where
  q : ∀ i, ∃ r : ℝ, q i = (r : EReal)
  k : ∀ (i : Fin 16384) (j : Fin 3072), ∃ r : ℝ, kv (ix2 i ⟨j.val, by omega⟩) = (r : EReal)
  b : ∀ i, ∃ r : ℝ, rb i = (r : EReal)

theorem real3_of_pre (h : Cert.Pre_finite.fn (F := Ideal) q kv rb = fun _ => 1#1) : Real3 q kv rb := by
  have e := congrFun h (fun a => a.elim0)
  dsimp only [Cert.Pre_finite.fn, andi] at e
  have hand : ∀ a b : BitVec 1, IntOp.andi a b = 1#1 → a = 1#1 ∧ b = 1#1 := by decide
  obtain ⟨e12, e3⟩ := hand _ _ e
  obtain ⟨e1, e2⟩ := hand _ _ e12
  haveI : Subsingleton Cert.Pre_finite.S_.Idx := ⟨fun a b => funext fun x => x.elim0⟩
  refine ⟨fun i => ?_, fun i j => ?_, fun i => ?_⟩
  · exact real_of_abs _ (Host.reduce_andi_all _ _ _ _ _ e1 i)
  · have hk := real_of_abs _ (Host.reduce_andi_all _ _ _ _ _ e2 (ix2 i j))
    obtain ⟨r, hr⟩ := hk
    refine ⟨r, ?_⟩
    rw [← hr]
    refine congrArg kv (funext fun a => Fin.ext ?_)
    match a with
    | ⟨0, _⟩ => show i.val = 0 + i.val; omega
    | ⟨1, _⟩ => show j.val = 0 + j.val; omega
  · exact real_of_abs _ (Host.reduce_andi_all _ _ _ _ _ e3 i)

variable {q kv rb} (hr : Real3 q kv rb)

include hr

theorem logit_real (b : Fin 8) (g : Fin 3) (h : Fin 8) (t s : Fin 2048) (hb : Band (dil g) t s) : ∃ x : ℝ, rlog q kv rb b g h t s = (x : EReal) := by
  have hterm : ∀ c : Fin 128, ∃ x : ℝ, qa q b t g h c * kva kv b s 0 g h c = (x : EReal) := fun c => by
    obtain ⟨x, hx⟩ := hr.q (ix2 ⟨2048 * b.val + t.val, by omega⟩ ⟨1024 * g.val + 128 * h.val + c.val, by omega⟩)
    obtain ⟨y, hy⟩ := hr.k ⟨2048 * b.val + s.val, by omega⟩ ⟨1024 * g.val + 128 * h.val + c.val, by omega⟩
    refine ⟨x * y, ?_⟩
    rw [EReal.coe_mul, ← hx, ← hy]
    unfold qa kva
    refine congrArg (fun z : EReal => _ * z) (congrArg kv (congrArg (ix2 _) (Fin.ext ?_)))
    show 3072 * 0 + 1024 * g.val + 128 * h.val + c.val = 1024 * g.val + 128 * h.val + c.val
    omega
  choose f hf using hterm
  have hn : (bkt (BitVec.ofNat 32 (t.val - s.val))).toNat < 32 := bkt_lt _ (by omega)
  obtain ⟨z, hz⟩ := hr.b (ix2 ⟨_, hn⟩ ⟨8 * g.val + h.val, by omega⟩)
  refine ⟨(∑ c, f c) * (Real.sqrt 128)⁻¹ + z, ?_⟩
  unfold rlog
  rw [if_pos hb, Finset.sum_congr rfl fun c _ => hf c, sum_coe, rba, dif_pos hn, hz, EReal.coe_add, EReal.coe_mul]
  rfl

theorem row_logits (b : Fin 8) (g : Fin 3) (h : Fin 8) (t : Fin 2048) : Logits (rlog q kv rb b g h t) := by
  constructor
  · intro s
    by_cases hb : Band (dil g) t s
    · obtain ⟨x, hx⟩ := logit_real hr b g h t s hb
      rw [hx]; exact EReal.coe_ne_top x
    · unfold rlog
      rw [if_neg hb]; exact bot_ne_top
  · have hb : Band (dil g) t t := ⟨le_rfl, by omega, by simp⟩
    obtain ⟨x, hx⟩ := logit_real hr b g h t t hb
    exact ⟨t, by rw [hx]; exact EReal.coe_ne_bot x⟩

/-- The kernel's merge of the three head groups is the reference's sum over the groups. -/
theorem merge_rows (b h : Fin 8) (t : Fin 2048) (c : Fin 128) :
    merge (fun g => rowO (rlog q kv rb b g h t) fun s => kva kv b s 1 g h c) (fun g => rowL (rlog q kv rb b g h t)) = rout q kv rb b h t c := by
  have hl : Logits fun g : Fin 3 => rowL (rlog q kv rb b g h t) := by
    constructor
    · intro g
      obtain ⟨x, hx⟩ := (row_logits hr b g h t).rowL_real
      show rowL _ ≠ _
      rw [hx]; exact EReal.coe_ne_top x
    · obtain ⟨x, hx⟩ := (row_logits hr b 0 h t).rowL_real
      refine ⟨0, ?_⟩
      show rowL _ ≠ _
      rw [hx]; exact EReal.coe_ne_bot x
  rw [merge_eq _ _ hl]
  unfold rout
  refine Finset.sum_congr rfl fun g _ => ?_
  rw [(row_logits hr b g h t).rowO_eq]

end

end Cert.Dil

end
-- ==== Proof.Result.lean ====
/- The kernel's result array: every block is the reference's value at its sequence and head, and the blocks cover it. -/
module

public import proofs.«01_k».proof.Proof.Out
public import proofs.«01_k».proof.Proof.Inputs
public import proofs.«01_k».proof.Proof.Finite

@[expose] public section

set_option maxRecDepth 16384

noncomputable section

namespace Cert.Dil

open Idealize.ShloMosaic Idealize.ShloMosaic.TcCoe Cert.KernelIdeal Cert.KernelIdeal.Gen Cert.KernelIdeal.Gen.kernelRun0_A

variable (m : (ℓ : Loc nD τ sig) → Buf (Elt Ideal) ℓ) (c : Dev nD)

/-- The merge of the three head groups, from what their blocks hold, is the reference's value. -/
theorem merged_at {q : FVec Ideal Cert.ReferenceIdeal.S16384x3072 .f32} {kv : FVec Ideal Cert.ReferenceIdeal.S16384x6144 .f32} {rb : FVec Ideal Cert.ReferenceIdeal.S32x24 .f32}
    (hr : Real3 q kv rb) (b h : Fin 8) (B : Fin 3 → S128x256.Idx → EReal) (xq xk xv : Fin 3 → S2048x128.Idx → EReal)
    (hB : ∀ g i j, B g (ix2 i j) = if i.val ≤ j.val ∧ j.val ≤ i.val + 128 then rba rb (bkt (BitVec.ofNat 32 (dil g * (i.val + 128 - j.val)))).toNat g h else ⊥)
    (hq : ∀ g t c, xq g (ix2 t c) = qa q b t g h c) (hk : ∀ g t c, xk g (ix2 t c) = kva kv b t 0 g h c) (hv : ∀ g t c, xv g (ix2 t c) = kva kv b t 1 g h c)
    (s : Fin 2048) (l : Fin 128) :
    merge ![gO 1 (B 0) (xq 0) (xk 0) (xv 0) s l, gO 4 (B 1) (xq 1) (xk 1) (xv 1) s l, gO 16 (B 2) (xq 2) (xk 2) (xv 2) s l]
      ![gL 1 (B 0) (xq 0) (xk 0) s, gL 4 (B 1) (xq 1) (xk 1) s, gL 16 (B 2) (xq 2) (xk 2) s] = rout q kv rb b h s l := by
  rw [← merge_rows hr b h s l]
  refine congrArg₂ merge (funext fun g => ?_) (funext fun g => ?_)
  · refine Eq.trans ?_ (gO_eq q kv rb b g h (hB g) (hq g) (hk g) (hv g) s l)
    fin_cases g <;> rfl
  · refine Eq.trans ?_ (gL_eq q kv rb b g h (hB g) (hq g) (hk g) s)
    fin_cases g <;> rfl

/-- A statement about the three groups, group by group. -/
theorem three {p : Fin 3 → Prop} (h0 : p 0) (h1 : p 1) (h2 : p 2) (g : Fin 3) : p g := by
  fin_cases g
  · exact h0
  · exact h1
  · exact h2

/-- The bias of head h of group g on the window. -/
def BiasAt (rb : FVec Ideal Cert.ReferenceIdeal.S32x24 .f32) (h : Fin 8) (g : Fin 3) (B : S128x256.Idx → EReal) : Prop :=
  ∀ (i : Fin 128) (j : Fin 256), B (ix2 i j) =
    if i.val ≤ j.val ∧ j.val ≤ i.val + 128 then rba rb (bkt (BitVec.ofNat 32 (dil g * (i.val + 128 - j.val)))).toNat g h else ⊥

/-- The same with the three groups' blocks one by one. -/
theorem merged_of {q : FVec Ideal Cert.ReferenceIdeal.S16384x3072 .f32} {kv : FVec Ideal Cert.ReferenceIdeal.S16384x6144 .f32} {rb : FVec Ideal Cert.ReferenceIdeal.S32x24 .f32}
    (hr : Real3 q kv rb) (b h : Fin 8) {B0 B1 B2 : S128x256.Idx → EReal} {q0 q1 q2 k0 k1 k2 v0 v1 v2 : S2048x128.Idx → EReal}
    (hB0 : BiasAt rb h 0 B0) (hB1 : BiasAt rb h 1 B1) (hB2 : BiasAt rb h 2 B2)
    (hq0 : ∀ t c, q0 (ix2 t c) = qa q b t 0 h c) (hq1 : ∀ t c, q1 (ix2 t c) = qa q b t 1 h c) (hq2 : ∀ t c, q2 (ix2 t c) = qa q b t 2 h c)
    (hk0 : ∀ t c, k0 (ix2 t c) = kva kv b t 0 0 h c) (hk1 : ∀ t c, k1 (ix2 t c) = kva kv b t 0 1 h c) (hk2 : ∀ t c, k2 (ix2 t c) = kva kv b t 0 2 h c)
    (hv0 : ∀ t c, v0 (ix2 t c) = kva kv b t 1 0 h c) (hv1 : ∀ t c, v1 (ix2 t c) = kva kv b t 1 1 h c) (hv2 : ∀ t c, v2 (ix2 t c) = kva kv b t 1 2 h c)
    (s : Fin 2048) (l : Fin 128) :
    merge ![gO 1 B0 q0 k0 v0 s l, gO 4 B1 q1 k1 v1 s l, gO 16 B2 q2 k2 v2 s l] ![gL 1 B0 q0 k0 s, gL 4 B1 q1 k1 s, gL 16 B2 q2 k2 s] =
      rout q kv rb b h s l :=
  merged_at hr b h ![B0, B1, B2] ![q0, q1, q2] ![k0, k1, k2] ![v0, v1, v2] (three hB0 hB1 hB2) (three hq0 hq1 hq2) (three hk0 hk1 hk2) (three hv0 hv1 hv2) s l

variable (hr : Real3 (m ((c : Thread nD τ).loc main_arg0)) (m ((c : Thread nD τ).loc main_arg1)) (m ((c : Thread nD τ).loc main_arg2)))

include hr

/-- What a point leaves in the result's block. -/
theorem block_at (t : Fin cfg0.N) (s : Fin 2048) (l : Fin 128) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 s l) =
      rout (m ((c : Thread nD τ).loc main_arg0)) (m ((c : Thread nD τ).loc main_arg1)) (m ((c : Thread nD τ).loc main_arg2)) (seqOf t) (headOf t) s l := by
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) s l).trans ?_
  refine merged_of hr (seqOf t) (headOf t) (fun i j => ?_) (fun i j => ?_) (fun i j => ?_) ?_ ?_ ?_ ?_ ?_ ?_ ?_ ?_ ?_ s l
  · exact (congrFun (bias0 c (grid0.coords t) (ms0_0 t) (hs0_0 t) (ms0_1 t) (hs0_1 t) (iblk m c 0 t) (iblk m c 1 t)) (ix2 i j)).trans
      (bias_at m c t (ms0_0 t) (hs0_0 t) (ms0_1 t) (hs0_1 t) 0 i j)
  · exact (congrFun (bias1 c (grid0.coords t) (ms0_0 t) (hs0_0 t) (ms0_1 t) (hs0_1 t) (iblk m c 0 t) (iblk m c 1 t)) (ix2 i j)).trans
      (bias_at m c t (ms0_0 t) (hs0_0 t) (ms0_1 t) (hs0_1 t) 1 i j)
  · exact (congrFun (bias2 c (grid0.coords t) (ms0_0 t) (hs0_0 t) (ms0_1 t) (hs0_1 t) (iblk m c 0 t) (iblk m c 1 t)) (ix2 i j)).trans
      (bias_at m c t (ms0_0 t) (hs0_0 t) (ms0_1 t) (hs0_1 t) 2 i j)
  · exact blk_2 m c t
  · exact blk_3 m c t
  · exact blk_4 m c t
  · exact blk_5 m c t
  · exact blk_6 m c t
  · exact blk_7 m c t
  · exact blk_8 m c t
  · exact blk_9 m c t
  · exact blk_10 m c t

section

variable (G : FVec Ideal S16384x1024 .bf16)
  (hG : ∀ (b h : Fin 8) (s : Fin 2048) (l : Fin 128), G (ix2 ⟨2048 * b.val + s.val, by omega⟩ ⟨128 * h.val + l.val, by omega⟩) =
    rout (m ((c : Thread nD τ).loc main_arg0)) (m ((c : Thread nD τ).loc main_arg1)) (m ((c : Thread nD τ).loc main_arg2)) b h s l)

include hG

theorem flushed_eq (t : Fin cfg0.N) : (dats m 0 c).flushed 11 t = ((cfg0.win 11).blk t).view.read (Elt Ideal) G := by
  rw [Value.flushed11_A]
  funext j
  obtain ⟨s, l, rfl⟩ : ∃ (s : Fin 2048) (l : Fin 128), j = ix2 s l := ⟨j 0, j 1, by funext a; fin_cases a <;> rfl⟩
  refine (block_at m c hr t s l).trans ((hG (seqOf t) (headOf t) s l).symm.trans ?_)
  show G _ = G (((cfg0.win 11).blk t).view.emb (ix2 s l))
  exact congrArg G (place (s := s) (l := l) _ rfl rfl (index_11 t) rfl rfl).symm

theorem covered (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  obtain ⟨t, e0, e1⟩ := points ⟨(i 0).val / 2048, by omega⟩ ⟨(i 1).val / 128, by omega⟩
  refine ⟨t, flush0_11 t, ?_⟩
  have e := place (s := ⟨(i 0).val % 2048, by omega⟩) (l := ⟨(i 1).val % 128, by omega⟩)
    (((cfg0.win 11).blk t).view.emb (ix2 ⟨(i 0).val % 2048, by omega⟩ ⟨(i 1).val % 128, by omega⟩)) rfl rfl (index_11 t)
    (r := i 0) (o := i 1) (by rw [e0]; show (i 0).val = 2048 * ((i 0).val / 2048) + (i 0).val % 2048; omega)
    (by rw [e1]; show (i 1).val = 128 * ((i 1).val / 128) + (i 1).val % 128; omega)
  have hi : ix2 (i 0) (i 1) = i := by funext a; fin_cases a <;> rfl
  have hm := ((cfg0.win 11).blk t).view.emb_mem_set (ix2 ⟨(i 0).val % 2048, by omega⟩ ⟨(i 1).val % 128, by omega⟩)
  rw [e] at hm
  exact hi ▸ hm

/-- The result array after the run. -/
theorem final_eq : (dats m 0 c).arrAt 11 cfg0.N = G :=
  (dats m 0 c).arrAt_eq_of_cover 11 G (fun t _ => flushed_eq m c hr G hG t) (covered m c hr G hG)

end

omit hr in
theorem rout_congr {q q' : FVec Ideal Cert.ReferenceIdeal.S16384x3072 .f32} {kv kv' : FVec Ideal Cert.ReferenceIdeal.S16384x6144 .f32}
    {rb rb' : FVec Ideal Cert.ReferenceIdeal.S32x24 .f32} (e0 : q = q') (e1 : kv = kv') (e2 : rb = rb') (b h : Fin 8) (s : Fin 2048) (l : Fin 128) :
    rout q kv rb b h s l = rout q' kv' rb' b h s l := by
  rw [e0, e1, e2]

/-- On equal arguments it is the reference's result. -/
theorem final_res (V0 : Valuation Cert.ReferenceIdeal.τ Cert.ReferenceIdeal.sig (Elt Ideal))
    (e0 : V0 (Proc.devRef .tc Cert.ReferenceIdeal.main_arg0) = m ((c : Thread nD τ).loc main_arg0))
    (e1 : V0 (Proc.devRef .tc Cert.ReferenceIdeal.main_arg1) = m ((c : Thread nD τ).loc main_arg1))
    (e2 : V0 (Proc.devRef .tc Cert.ReferenceIdeal.main_arg2) = m ((c : Thread nD τ).loc main_arg2)) :
    (dats m 0 c).arrAt 11 cfg0.N = res V0 :=
  final_eq m c hr (res V0) fun b h s l => (res_at V0 b h s l).trans (rout_congr e0 e1 e2 b h s l)

end Cert.Dil

end
-- ==== Proof.Up.lean ====
/- The MLP's first product: each block of the result is the squared relu of 1024 rows of activations against 1024 columns
   of the weights, and the blocks cover the result. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.Value
public import Idealize.ShloMosaic.PureOps.Ideal

@[expose] public section

set_option maxRecDepth 16384

noncomputable section

namespace Cert.Up

open Idealize.ShloMosaic Idealize.ShloMosaic.TcCoe

/-- The squared relu. -/
def sqRelu (x : EReal) : EReal := max x 0 * max x 0

/-! ## The reference -/

section

open Cert.Reference2Ideal Cert.Reference2Ideal.Gen Cert.Reference2Ideal.Facts₀

/-- The reference's result, from its arguments. -/
def res (h : FVec Ideal S16384x4096 .bf16) (w : FVec Ideal S4096x16384 .f32) : FVec Ideal S16384x16384 .bf16 :=
  truncf .bf16 (mulf
    (maximumf (Host.dotGeneral dot_S16384x4096_S4096x16384_S16384x16384_1_0_0_1_n_n none (extf .f32 h Facts₀.bitsLt_bf16_f32) w)
      (broadcastInDim S16384x16384 ![] Facts₀.bcast_S_S16384x16384 (constant S_ .f32 0x00000000#32)))
    (maximumf (Host.dotGeneral dot_S16384x4096_S4096x16384_S16384x16384_1_0_0_1_n_n none (extf .f32 h Facts₀.bitsLt_bf16_f32) w)
      (broadcastInDim S16384x16384 ![] Facts₀.bcast_S_S16384x16384 (constant S_ .f32 0x00000000#32)))) Facts₀.bitsLt_bf16_f32

theorem res_at (h : FVec Ideal S16384x4096 .bf16) (w : FVec Ideal S4096x16384 .f32) (r o : Fin 16384) :
    res h w (ix2 r o) = sqRelu (∑ k : Fin 4096, h (ix2 r k) * w (ix2 k o)) := by
  pointwise! [res, sqRelu]

end

open Cert.Kernel2Ideal Cert.Kernel2Ideal.Gen

/-- Entry `(r, o)` of the squared relu of the product. -/
def up (h : FVec Ideal S16384x4096 .bf16) (w : FVec Ideal S4096x16384 .f32) (r o : Fin 16384) : EReal :=
  sqRelu (∑ k : Fin 4096, h (ix2 r k) * w (ix2 k o))

/-! ## One block -/

theorem pay_at (x : FVec Ideal S1024x4096 .bf16) (w : FVec Ideal S4096x1024 .bf16) (s l : Fin 1024) :
    k0_pay1 (F := Ideal) x w (ix2 s l) = sqRelu (∑ k : Fin 4096, x (ix2 s k) * w (ix2 k l)) := by
  pointwise! [k0_pay1, sqRelu]

theorem zeros : (![0, 0] : Fin 2 → Nat) = fun _ => 0 := funext fun a => by fin_cases a <;> rfl

theorem out_eq (x : FVec Ideal S1024x4096 .bf16) (w : FVec Ideal S4096x1024 .bf16) : out0_2 (F := Ideal) x w = k0_pay1 (F := Ideal) x w := by
  unfold out0_2
  rw [View.canon_unit_zero zeros, View.ld_unit_zero (S := S1024x4096) zeros, View.ld_unit_zero (S := S4096x1024) zeros]

/-! ## The windows at a grid point -/

/-- The point's block row. -/
abbrev rowOf (t : Fin cfg0.N) : Fin 16 := grid0.coords t 0

/-- The point's block column. -/
abbrev colOf (t : Fin cfg0.N) : Fin 16 := grid0.coords t 1

theorem points (a b : Fin 16) : ∃ t : Fin cfg0.N, (rowOf t).val = a.val ∧ (colOf t).val = b.val :=
  ⟨⟨16 * a.val + b.val, by rw [show cfg0.N = 256 from N_0]; omega⟩,
    (by decide +kernel : ∀ a b : Fin 16, (grid0.coords ⟨16 * a.val + b.val, by rw [N_0]; omega⟩ 0).val = a.val ∧
      (grid0.coords ⟨16 * a.val + b.val, by rw [N_0]; omega⟩ 1).val = b.val) a b⟩

theorem index_0 : ∀ t : Fin cfg0.N, win0_0.index t 0 = (rowOf t).val ∧ win0_0.index t 1 = 0 :=
  (by decide +kernel : ∀ t : Fin grid0.N, win0_0.index t 0 = (grid0.coords t 0).val ∧ win0_0.index t 1 = 0)
theorem index_1 : ∀ t : Fin cfg0.N, win0_1.index t 0 = 0 ∧ win0_1.index t 1 = (colOf t).val :=
  (by decide +kernel : ∀ t : Fin grid0.N, win0_1.index t 0 = 0 ∧ win0_1.index t 1 = (grid0.coords t 1).val)
theorem index_2 : ∀ t : Fin cfg0.N, win0_2.index t 0 = (rowOf t).val ∧ win0_2.index t 1 = (colOf t).val :=
  (by decide +kernel : ∀ t : Fin grid0.N, win0_2.index t 0 = (grid0.coords t 0).val ∧ win0_2.index t 1 = (grid0.coords t 1).val)

variable (m : (ℓ : Loc nD τ sig) → Buf (Elt Ideal) ℓ) (c : Dev nD) (t : Fin cfg0.N)

theorem blk_0 (s : Fin 1024) (k : Fin 4096) :
    iblk m c 0 t (ix2 s k) = m ((c : Thread nD τ).loc main_arg0) (ix2 ⟨1024 * (rowOf t).val + s.val, by omega⟩ k) := by
  obtain ⟨e0, e1⟩ := index_0 t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 4096 + 1 * k.val = k.val; omega

/-- The weights as the host casts them: over the extended reals, the weights. -/
theorem weights : (V m c main_v0 : FVec Ideal S4096x16384 .bf16) = truncf (F := Ideal) .bf16 (m ((c : Thread nD τ).loc main_arg1) : FVec Ideal S4096x16384 .f32) bitsLt_bf16_f32 := by
  unfold V
  after_results

theorem blk_1 (k : Fin 4096) (l : Fin 1024) :
    iblk m c 1 t (ix2 k l) = m ((c : Thread nD τ).loc main_arg1) (ix2 k ⟨1024 * (colOf t).val + l.val, by omega⟩) := by
  obtain ⟨e0, e1⟩ := index_1 t
  refine (congrFun (weights m c) _).trans ?_
  show m ((c : Thread nD τ).loc main_arg1) _ = _
  refine congrArg _ (funext fun a => Fin.ext ?_)
  match a with
  | ⟨0, _⟩ => show win0_1.index t (0 : Fin 2) * 4096 + 1 * k.val = k.val; omega
  | ⟨1, _⟩ => show win0_1.index t (1 : Fin 2) * 1024 + 1 * l.val = 1024 * (colOf t).val + l.val; omega

/-- What a point leaves in the result's block. -/
theorem block_at (s l : Fin 1024) :
    out0_2 (F := Ideal) (iblk m c 0 t) (iblk m c 1 t) (ix2 s l) =
      up (m ((c : Thread nD τ).loc main_arg0)) (m ((c : Thread nD τ).loc main_arg1)) ⟨1024 * (rowOf t).val + s.val, by omega⟩ ⟨1024 * (colOf t).val + l.val, by omega⟩ := by
  refine (congrFun (out_eq (iblk m c 0 t) (iblk m c 1 t)) _).trans ((pay_at (iblk m c 0 t) (iblk m c 1 t) s l).trans ?_)
  unfold up
  exact congrArg sqRelu (Finset.sum_congr rfl fun k _ => congrArg₂ _ (blk_0 m c t s k) (blk_1 m c t k l))

/-- Entry `(s, l)` of the result's block. -/
theorem place (s l : Fin 1024) {r o : Fin 16384} (hr : r.val = 1024 * (rowOf t).val + s.val) (ho : o.val = 1024 * (colOf t).val + l.val) :
    ((cfg0.win 2).blk t).view.emb (ix2 s l) = ix2 r o := by
  obtain ⟨e0, e1⟩ := index_2 t
  funext a; apply Fin.ext
  match a with
  | ⟨0, _⟩ => show win0_2.index t (0 : Fin 2) * 1024 + 1 * s.val = r.val; omega
  | ⟨1, _⟩ => show win0_2.index t (1 : Fin 2) * 1024 + 1 * l.val = o.val; omega

theorem covered (i : S16384x16384.Idx) : ∃ t : Fin cfg0.N, (cfg0.win 2).flush t = true ∧ i ∈ ((cfg0.win 2).blk t).view.set := by
  have h0 : (i 0).val < 16384 := (i 0).isLt
  have h1 : (i 1).val < 16384 := (i 1).isLt
  obtain ⟨t, e0, e1⟩ := points ⟨(i 0).val / 1024, by omega⟩ ⟨(i 1).val / 1024, by omega⟩
  refine ⟨t, flush0_2 t, ?_⟩
  have e := place t ⟨(i 0).val % 1024, by omega⟩ ⟨(i 1).val % 1024, by omega⟩ (r := i 0) (o := i 1)
    (by rw [e0]; show (i 0).val = 1024 * ((i 0).val / 1024) + (i 0).val % 1024; omega)
    (by rw [e1]; show (i 1).val = 1024 * ((i 1).val / 1024) + (i 1).val % 1024; omega)
  have hi : ix2 (i 0) (i 1) = i := by funext a; fin_cases a <;> rfl
  have hm := ((cfg0.win 2).blk t).view.emb_mem_set (ix2 ⟨(i 0).val % 1024, by omega⟩ ⟨(i 1).val % 1024, by omega⟩)
  rw [e] at hm
  exact hi ▸ hm

/-! ## The whole result -/

theorem flushed_eq (G : FVec Ideal S16384x16384 .bf16)
    (hG : ∀ r o, G (ix2 r o) = up (m ((c : Thread nD τ).loc main_arg0)) (m ((c : Thread nD τ).loc main_arg1)) r o) :
    (dats m 0 c).flushed 2 t = ((cfg0.win 2).blk t).view.read (Elt Ideal) G := by
  rw [Value.flushed2]
  funext j
  obtain ⟨s, l, rfl⟩ : ∃ (s l : Fin 1024), j = ix2 s l := ⟨j 0, j 1, by funext a; fin_cases a <;> rfl⟩
  refine (block_at m c t s l).trans ((hG _ _).symm.trans ?_)
  show G _ = G (((cfg0.win 2).blk t).view.emb (ix2 s l))
  exact congrArg G (place t s l rfl rfl).symm

/-- On equal arguments the result array ends at the reference's result. -/
theorem final_res (h : FVec Ideal S16384x4096 .bf16) (w : FVec Ideal S4096x16384 .f32)
    (e0 : h = m ((c : Thread nD τ).loc main_arg0)) (e1 : w = m ((c : Thread nD τ).loc main_arg1)) :
    (dats m 0 c).arrAt 2 cfg0.N = res h w := by
  refine (dats m 0 c).arrAt_eq_of_cover 2 (res h w) (fun t _ => flushed_eq m c t (res h w) (fun r o => ?_)) covered
  exact (res_at h w r o).trans (by rw [← e0, ← e1]; rfl)

end Cert.Up

end
-- ==== Proof.Down.lean ====
/- The MLP's second product: a block of the result is summed over eight grid points, 2048 of the 16384 terms at each, and
   the last of the eight adds the residual. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.Value
public import Idealize.ShloMosaic.Lib.Tactic
public import Idealize.ShloMosaic.PureOps.Ideal

@[expose] public section

set_option maxRecDepth 16384

noncomputable section

namespace Cert.Down

open Idealize.ShloMosaic Idealize.ShloMosaic.TcCoe

/-! ## The reference -/

section

open Cert.Reference3Ideal Cert.Reference3Ideal.Gen

/-- The reference's result, from its arguments. -/
def res (h : FVec Ideal S16384x16384 .bf16) (w x : FVec Ideal S16384x4096 .f32) : FVec Ideal S16384x4096 .f32 :=
  addf x (Host.dotGeneral dot_S16384x16384_S16384x4096_S16384x4096_1_0_0_1_n_n none (extf .f32 h Facts₀.bitsLt_bf16_f32) w)

theorem res_at (h : FVec Ideal S16384x16384 .bf16) (w x : FVec Ideal S16384x4096 .f32) (r : Fin 16384) (o : Fin 4096) :
    res h w x (ix2 r o) = x (ix2 r o) + ∑ k : Fin 16384, h (ix2 r k) * w (ix2 k o) := by
  pointwise! [res]

end

open Cert.Kernel3Ideal Cert.Kernel3Ideal.Gen

/-! ## What one point does -/

theorem zeros : (![0, 0] : Fin 2 → Nat) = fun _ => 0 := funext fun a => by fin_cases a <;> rfl

theorem zero_at (s l : Fin 1024) : k0_pay1 (F := Ideal) (ix2 s l) = 0 := by
  pointwise! [k0_pay1]

theorem step_at (acc : FVec Ideal S1024x1024 .f32) (x : FVec Ideal S1024x2048 .bf16) (w : FVec Ideal S2048x1024 .bf16) (s l : Fin 1024) :
    k0_pay2 (F := Ideal) acc x w (ix2 s l) = acc (ix2 s l) + ∑ k : Fin 2048, x (ix2 s k) * w (ix2 k l) := by
  pointwise! [k0_pay2]

theorem last_at (acc x : FVec Ideal S1024x1024 .f32) (s l : Fin 1024) :
    k0_pay3 (F := Ideal) acc x (ix2 s l) = x (ix2 s l) + acc (ix2 s l) := by
  pointwise! [k0_pay3]

section

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : FVec Ideal S1024x2048 .bf16) (x1 : FVec Ideal S2048x1024 .bf16) (x2 acc : FVec Ideal S1024x1024 .f32)

/-- The first of the eight starts from zero. -/
theorem first_eq (hc0 : cond0_0 i) (hc1 : ¬cond0_1 i) :
    sout0_A_0 (F := Ideal) c i a3 h3 a4 h4 a5 h5 a6 h6 a7 h7 hc0 hc1 x0 x1 x2 = k0_pay2 (F := Ideal) (k0_pay1 (F := Ideal)) x0 x1 := by
  unfold sout0_A_0
  rw [View.read_writes_eq_canon _ _ _ (scover0_A_0 (F := Ideal) c i a3 h3 a4 h4 a5 h5 a6 h6 a7 h7 hc0 hc1 x0 x1 x2)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S1024x2048) zeros, View.ld_unit_zero (S := S2048x1024) zeros]

/-- The next ones add to what the one before left. -/
theorem next_eq (hc0 : ¬cond0_0 i) (hc1 : ¬cond0_1 i) :
    sout0_B_0 (F := Ideal) c i a3 h3 a4 h4 a5 h5 a6 h6 a7 h7 hc0 hc1 x0 x1 x2 acc = k0_pay2 (F := Ideal) acc x0 x1 := by
  unfold sout0_B_0
  rw [View.read_writes_eq_canon _ _ _ (scover0_B_0 (F := Ideal) c i a3 h3 a4 h4 a5 h5 a6 h6 a7 h7 hc0 hc1 x0 x1 x2 acc)]
  unfold kernelRun0_B
  dsimp only
  sl_unfold_words
  rw [View.canon_unit_zero (S := S1024x1024) zeros]
  simp only [View.readAt_eq_ld, h3.read_unread, h4.read_unread, h7.read_unread, View.ld_unit_zero (S := S1024x1024) zeros, View.ld_unit_zero (S := S1024x2048) zeros,
    View.ld_unit_zero (S := S2048x1024) zeros]

/-- The last adds to what the one before left, and then the residual. -/
theorem last_eq (hc0 : ¬cond0_0 i) (hc1 : cond0_1 i) :
    out0_C_3 (F := Ideal) c i a3 h3 a4 h4 a5 h5 a6 h6 a7 h7 hc0 hc1 x0 x1 x2 acc = k0_pay3 (F := Ideal) (k0_pay2 (F := Ideal) acc x0 x1) x2 := by
  unfold out0_C_3
  rw [View.read_writes_eq_canon _ _ _ (cover0_C_3 (F := Ideal) c i a3 h3 a4 h4 a5 h5 a6 h6 a7 h7 hc0 hc1 x0 x1 x2 acc)]
  unfold kernelRun0_C
  dsimp only
  sl_unfold_words
  rw [View.canon_unit_zero (S := S1024x1024) zeros, View.readCov_unit_zero (S := S1024x1024) _ zeros]
  simp only [View.readAt_eq_ld, h3.read_unread, h4.read_unread, h5.read_unread, h7.read_unread, View.ld_unit_zero (S := S1024x1024) zeros,
    View.ld_unit_zero (S := S1024x2048) zeros, View.ld_unit_zero (S := S2048x1024) zeros]

end

/-! ## The windows at a grid point -/

/-- The point's block row. -/
abbrev rowOf (t : Fin cfg0.N) : Fin 16 := grid0.coords t 0

/-- The point's block column. -/
abbrev colOf (t : Fin cfg0.N) : Fin 4 := grid0.coords t 1

theorem index_0 : ∀ t : Fin cfg0.N, win0_0.index t 0 = (rowOf t).val ∧ win0_0.index t 1 = t.val % 8 :=
  (by decide +kernel : ∀ t : Fin grid0.N, win0_0.index t 0 = (grid0.coords t 0).val ∧ win0_0.index t 1 = t.val % 8)
theorem index_1 : ∀ t : Fin cfg0.N, win0_1.index t 0 = t.val % 8 ∧ win0_1.index t 1 = (colOf t).val :=
  (by decide +kernel : ∀ t : Fin grid0.N, win0_1.index t 0 = t.val % 8 ∧ win0_1.index t 1 = (grid0.coords t 1).val)
theorem index_2 : ∀ t : Fin cfg0.N, win0_2.index t 0 = (rowOf t).val ∧ win0_2.index t 1 = (colOf t).val :=
  (by decide +kernel : ∀ t : Fin grid0.N, win0_2.index t 0 = (grid0.coords t 0).val ∧ win0_2.index t 1 = (grid0.coords t 1).val)
theorem index_3 : ∀ t : Fin cfg0.N, win0_3.index t 0 = (rowOf t).val ∧ win0_3.index t 1 = (colOf t).val :=
  (by decide +kernel : ∀ t : Fin grid0.N, win0_3.index t 0 = (grid0.coords t 0).val ∧ win0_3.index t 1 = (grid0.coords t 1).val)

/-- The eight points of one block of the result share its row and column. -/
theorem same_block : ∀ t : Fin cfg0.N, ¬t.val % 8 = 0 →
    rowOf ⟨t.val - 1, Nat.lt_of_le_of_lt (Nat.sub_le _ _) t.isLt⟩ = rowOf t ∧ colOf ⟨t.val - 1, Nat.lt_of_le_of_lt (Nat.sub_le _ _) t.isLt⟩ = colOf t :=
  (by decide +kernel : ∀ t : Fin grid0.N, ¬t.val % 8 = 0 →
    grid0.coords ⟨t.val - 1, Nat.lt_of_le_of_lt (Nat.sub_le _ _) t.isLt⟩ 0 = grid0.coords t 0 ∧
      grid0.coords ⟨t.val - 1, Nat.lt_of_le_of_lt (Nat.sub_le _ _) t.isLt⟩ 1 = grid0.coords t 1)

variable (m : (ℓ : Loc nD τ sig) → Buf (Elt Ideal) ℓ) (c : Dev nD) (t : Fin cfg0.N)

theorem blk_0 (s : Fin 1024) (k : Fin 2048) :
    iblk m c 0 t (ix2 s k) = m ((c : Thread nD τ).loc main_arg0) (ix2 ⟨1024 * (rowOf t).val + s.val, by omega⟩ ⟨2048 * (t.val % 8) + k.val, by omega⟩) := by
  obtain ⟨e0, e1⟩ := index_0 t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 2048 + 1 * k.val = 2048 * (t.val % 8) + k.val; omega

/-- The weights as the host casts them: over the extended reals, the weights. -/
theorem weights : (V m c main_v0 : FVec Ideal S16384x4096 .bf16) =
    truncf (F := Ideal) .bf16 (m ((c : Thread nD τ).loc main_arg1) : FVec Ideal S16384x4096 .f32) bitsLt_bf16_f32 := by
  unfold V
  after_results

theorem blk_1 (k : Fin 2048) (l : Fin 1024) :
    iblk m c 1 t (ix2 k l) = m ((c : Thread nD τ).loc main_arg1) (ix2 ⟨2048 * (t.val % 8) + k.val, by omega⟩ ⟨1024 * (colOf t).val + l.val, by omega⟩) := by
  obtain ⟨e0, e1⟩ := index_1 t
  refine (congrFun (weights m c) _).trans ?_
  show m ((c : Thread nD τ).loc main_arg1) _ = _
  refine congrArg _ (funext fun a => Fin.ext ?_)
  match a with
  | ⟨0, _⟩ => show win0_1.index t (0 : Fin 2) * 2048 + 1 * k.val = 2048 * (t.val % 8) + k.val; omega
  | ⟨1, _⟩ => show win0_1.index t (1 : Fin 2) * 1024 + 1 * l.val = 1024 * (colOf t).val + l.val; omega

theorem blk_2 (s l : Fin 1024) :
    iblk m c 2 t (ix2 s l) = m ((c : Thread nD τ).loc main_arg2) (ix2 ⟨1024 * (rowOf t).val + s.val, by omega⟩ ⟨1024 * (colOf t).val + l.val, by omega⟩) := by
  obtain ⟨e0, e1⟩ := index_2 t
  refine (congrFun (V_main_arg2 m c) _).trans (congrArg _ (funext fun a => Fin.ext ?_))
  match a with
  | ⟨0, _⟩ => show win0_2.index t (0 : Fin 2) * 1024 + 1 * s.val = 1024 * (rowOf t).val + s.val; omega
  | ⟨1, _⟩ => show win0_2.index t (1 : Fin 2) * 1024 + 1 * l.val = 1024 * (colOf t).val + l.val; omega

/-! ## The sum over the eight points -/

/-- Term `k` of entry `(r, o)` of the product, the indices as numbers. -/
def term (h : FVec Ideal S16384x16384 .bf16) (w : FVec Ideal S16384x4096 .f32) (r : Fin 16384) (o : Fin 4096) (k : ℕ) : EReal :=
  if hk : k < 16384 then h (ix2 r ⟨k, hk⟩) * w (ix2 ⟨k, hk⟩ o) else 0

theorem sum_term (h : FVec Ideal S16384x16384 .bf16) (w : FVec Ideal S16384x4096 .f32) (r : Fin 16384) (o : Fin 4096) :
    ∑ k ∈ Finset.range 16384, term h w r o k = ∑ k : Fin 16384, h (ix2 r k) * w (ix2 k o) := by
  rw [← Fin.sum_univ_eq_sum_range]
  exact Finset.sum_congr rfl fun k _ => dif_pos k.isLt

/-- Term `k` of entry `(s, l)` of a point's block of the product. -/
def entry (s l : Fin 1024) (k : ℕ) : EReal :=
  term (m ((c : Thread nD τ).loc main_arg0)) (m ((c : Thread nD τ).loc main_arg1)) ⟨1024 * (rowOf t).val + s.val, by omega⟩
    ⟨1024 * (colOf t).val + l.val, by omega⟩ k

theorem entry_same (u : Fin cfg0.N) (h : rowOf u = rowOf t ∧ colOf u = colOf t) (s l : Fin 1024) (k : ℕ) :
    entry m c u s l k = entry m c t s l k := by
  unfold entry
  simp only [h.1, h.2]

/-- What a point adds to entry `(s, l)` of the block: the terms of its 2048 indices. -/
theorem part (x : FVec Ideal S1024x2048 .bf16) (hx : x = iblk m c 0 t) (w : FVec Ideal S2048x1024 .bf16) (hw : w = iblk m c 1 t) (s l : Fin 1024) :
    ∑ k : Fin 2048, x (ix2 s k) * w (ix2 k l) = ∑ k ∈ Finset.range 2048, entry m c t s l (2048 * (t.val % 8) + k) := by
  rw [← Fin.sum_univ_eq_sum_range (fun k => entry m c t s l (2048 * (t.val % 8) + k))]
  refine Finset.sum_congr rfl fun k _ => ?_
  rw [hx, hw]
  refine (congrArg₂ _ (blk_0 m c t s k) (blk_1 m c t k l)).trans ?_
  unfold entry term
  rw [dif_pos (show 2048 * (t.val % 8) + k.val < 16384 by omega)]

/-- The terms below a point's, and the point's. -/
theorem terms_add (s l : Fin 1024) :
    ∑ k ∈ Finset.range (2048 * (t.val % 8 + 1)), entry m c t s l k =
      ∑ k ∈ Finset.range (2048 * (t.val % 8)), entry m c t s l k + ∑ k ∈ Finset.range 2048, entry m c t s l (2048 * (t.val % 8) + k) := by
  rw [show 2048 * (t.val % 8 + 1) = 2048 * (t.val % 8) + 2048 by omega, Finset.sum_range_add]

/-- The scratch after a block's first point. -/
theorem scratch_first (h0 : t.val % 8 = 0) (h1 : ¬t.val % 8 = 7) (s l : Fin 1024) :
    (outsAt0 m c t.val t.isLt).2 (ix2 s l) = ∑ k ∈ Finset.range (2048 * (t.val % 8 + 1)), entry m c t s l k := by
  rw [outsAt0_A m c t h0 h1]
  dsimp only
  rw [first_eq, step_at, part m c t _ rfl _ rfl, terms_add, zero_at, h0, Nat.mul_zero, Finset.range_zero, Finset.sum_empty]

/-- The point before `t`. -/
abbrev before : Fin cfg0.N := ⟨t.val - 1, Nat.lt_of_le_of_lt (Nat.sub_le _ _) t.isLt⟩

theorem terms_before (h0 : ¬t.val % 8 = 0) (s l : Fin 1024) :
    ∑ k ∈ Finset.range (2048 * ((before t).val % 8 + 1)), entry m c (before t) s l k =
      ∑ k ∈ Finset.range (2048 * (t.val % 8)), entry m c t s l k := by
  rw [show 2048 * ((before t).val % 8 + 1) = 2048 * (t.val % 8) by show 2048 * ((t.val - 1) % 8 + 1) = _; omega]
  exact Finset.sum_congr rfl fun k _ => entry_same m c t _ (same_block t h0) s l k

/-- The scratch after a later point that is not the last, from the scratch before it. -/
theorem scratch_next (h0 : ¬t.val % 8 = 0) (h1 : ¬t.val % 8 = 7) (s l : Fin 1024)
    (ih : (outsAt0 m c (before t).val (before t).isLt).2 (ix2 s l) =
      ∑ k ∈ Finset.range (2048 * ((before t).val % 8 + 1)), entry m c (before t) s l k) :
    (outsAt0 m c t.val t.isLt).2 (ix2 s l) = ∑ k ∈ Finset.range (2048 * (t.val % 8 + 1)), entry m c t s l k := by
  rw [outsAt0_B m c t h0 h1]
  dsimp only
  rw [next_eq, step_at, part m c t _ rfl _ rfl, terms_add]
  exact congrArg (· + _) (ih.trans (terms_before m c t h0 s l))

/-- The scratch after a point that is not its block's last holds the terms up to the point's. -/
theorem scratch_at : ∀ (n : ℕ) (t : Fin cfg0.N), t.val = n → ¬t.val % 8 = 7 → ∀ s l : Fin 1024,
    (outsAt0 m c t.val t.isLt).2 (ix2 s l) = ∑ k ∈ Finset.range (2048 * (t.val % 8 + 1)), entry m c t s l k
  | 0, t, ht, h1, s, l => scratch_first m c t (by rw [ht]) h1 s l
  | n + 1, t, ht, h1, s, l => by
    by_cases h0 : t.val % 8 = 0
    · exact scratch_first m c t h0 h1 s l
    · exact scratch_next m c t h0 h1 s l (scratch_at n (before t) (by show t.val - 1 = n; omega) (by show ¬(t.val - 1) % 8 = 7; omega) s l)

/-! ## The result -/

/-- What a block's last point leaves in the result's block. -/
theorem block_at (h0 : ¬t.val % 8 = 0) (h1 : t.val % 8 = 7) (h : FVec Ideal S16384x16384 .bf16) (w x : FVec Ideal S16384x4096 .f32)
    (e0 : h = m ((c : Thread nD τ).loc main_arg0)) (e1 : w = m ((c : Thread nD τ).loc main_arg1)) (e2 : x = m ((c : Thread nD τ).loc main_arg2)) (s l : Fin 1024) :
    (dats m 0 c).flushed 3 t (ix2 s l) = res h w x (ix2 ⟨1024 * (rowOf t).val + s.val, by omega⟩ ⟨1024 * (colOf t).val + l.val, by omega⟩) := by
  rw [Value.flushed3_C m c t h0 h1, last_eq]
  refine (last_at _ _ s l).trans ?_
  rw [step_at, part m c t _ rfl _ rfl, res_at, ← sum_term]
  refine congrArg₂ _ ((blk_2 m c t s l).trans (by rw [e2])) ?_
  have e := scratch_at m c (before t).val (before t) rfl (by show ¬(t.val - 1) % 8 = 7; omega) s l
  refine (congrArg (· + _) (e.trans (terms_before m c t h0 s l))).trans ((terms_add m c t s l).symm.trans ?_)
  rw [show 2048 * (t.val % 8 + 1) = 16384 by omega, e0, e1]
  rfl

/-- Entry `(s, l)` of the result's block. -/
theorem place (s l : Fin 1024) {r : Fin 16384} {o : Fin 4096} (hr : r.val = 1024 * (rowOf t).val + s.val) (ho : o.val = 1024 * (colOf t).val + l.val) :
    ((cfg0.win 3).blk t).view.emb (ix2 s l) = ix2 r o := by
  obtain ⟨e0, e1⟩ := index_3 t
  funext a; apply Fin.ext
  match a with
  | ⟨0, _⟩ => show win0_3.index t (0 : Fin 2) * 1024 + 1 * s.val = r.val; omega
  | ⟨1, _⟩ => show win0_3.index t (1 : Fin 2) * 1024 + 1 * l.val = o.val; omega

/-- On equal arguments the result array ends at the reference's result. -/
theorem final_res (h : FVec Ideal S16384x16384 .bf16) (w x : FVec Ideal S16384x4096 .f32)
    (e0 : h = m ((c : Thread nD τ).loc main_arg0)) (e1 : w = m ((c : Thread nD τ).loc main_arg1)) (e2 : x = m ((c : Thread nD τ).loc main_arg2)) :
    (dats m 0 c).arrAt 3 cfg0.N = res h w x := by
  refine (dats m 0 c).arrAt_eq_of_cover 3 (res h w x) (fun t hf => ?_)
    fun i => (Value.covered_iff3 i).mpr ⟨Nat.zero_le _, (i 0).isLt, Nat.zero_le _, (i 1).isLt⟩
  have h1 : t.val % 8 = 7 := (flush0_3 t).mp hf
  funext j
  obtain ⟨s, l, rfl⟩ : ∃ (s l : Fin 1024), j = ix2 s l := ⟨j 0, j 1, by funext a; fin_cases a <;> rfl⟩
  refine (block_at m c t (by omega) h1 h w x e0 e1 e2 s l).trans ?_
  show res h w x _ = res h w x (((cfg0.win 3).blk t).view.emb (ix2 s l))
  exact congrArg (res h w x) (place t s l rfl rfl).symm

end Cert.Down

end
-- ==== Proof.Kv.lean ====
/- The projection of the shared keys and values: each block of the result is 1024 rows against 1024 columns of the weights. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.Value
public import Idealize.ShloMosaic.PureOps.Ideal

@[expose] public section

set_option maxRecDepth 16384

noncomputable section

namespace Cert.Kv

open Idealize.ShloMosaic Idealize.ShloMosaic.TcCoe

section

open Cert.Reference4Ideal Cert.Reference4Ideal.Gen

/-- The reference's result, from its arguments. -/
def res (h : FVec Ideal S16384x4096 .bf16) (w : FVec Ideal S4096x6144 .f32) : FVec Ideal S16384x6144 .f32 :=
  Host.dotGeneral dot_S16384x4096_S4096x6144_S16384x6144_1_0_0_1_n_n none (extf .f32 h Facts₀.bitsLt_bf16_f32) w

theorem res_at (h : FVec Ideal S16384x4096 .bf16) (w : FVec Ideal S4096x6144 .f32) (r : Fin 16384) (o : Fin 6144) :
    res h w (ix2 r o) = ∑ k : Fin 4096, h (ix2 r k) * w (ix2 k o) := by
  pointwise! [res]

end

open Cert.Kernel4Ideal Cert.Kernel4Ideal.Gen

/-- Entry `(s, l)` of a block, from the rows and the columns. -/
theorem out_at (x : FVec Ideal S1024x4096 .bf16) (w : FVec Ideal S4096x1024 .bf16) (s l : Fin 1024) :
    out0_2 (F := Ideal) x w (ix2 s l) = ∑ k : Fin 4096, x (ix2 s k) * w (ix2 k l) := by
  have z : (![0, 0] : Fin 2 → Nat) = fun _ => 0 := funext fun a => by fin_cases a <;> rfl
  unfold out0_2
  rw [View.canon_unit_zero z, View.ld_unit_zero (S := S1024x4096) z, View.ld_unit_zero (S := S4096x1024) z]
  pointwise! [k0_pay1]

/-- A point's block row and column. -/
abbrev rowOf (t : Fin cfg0.N) : Fin 16 := grid0.coords t 0
abbrev colOf (t : Fin cfg0.N) : Fin 6 := grid0.coords t 1

/-- The blocks that the three windows hold at a point. -/
theorem index_at : ∀ t : Fin cfg0.N, (win0_0.index t 0 = (rowOf t).val ∧ win0_0.index t 1 = 0) ∧
    (win0_1.index t 0 = 0 ∧ win0_1.index t 1 = (colOf t).val) ∧ win0_2.index t 0 = (rowOf t).val ∧ win0_2.index t 1 = (colOf t).val :=
  (by decide +kernel : ∀ t : Fin grid0.N, (win0_0.index t 0 = (grid0.coords t 0).val ∧ win0_0.index t 1 = 0) ∧
    (win0_1.index t 0 = 0 ∧ win0_1.index t 1 = (grid0.coords t 1).val) ∧ win0_2.index t 0 = (grid0.coords t 0).val ∧ win0_2.index t 1 = (grid0.coords t 1).val)

theorem points : ∀ (a : Fin 16) (b : Fin 6), ∃ t : Fin cfg0.N, (rowOf t).val = a.val ∧ (colOf t).val = b.val :=
  fun a b => ⟨⟨6 * a.val + b.val, by rw [show cfg0.N = 96 from N_0]; omega⟩,
    (by decide +kernel : ∀ (a : Fin 16) (b : Fin 6), (grid0.coords ⟨6 * a.val + b.val, by rw [N_0]; omega⟩ 0).val = a.val ∧
      (grid0.coords ⟨6 * a.val + b.val, by rw [N_0]; omega⟩ 1).val = b.val) a b⟩

variable (m : (ℓ : Loc nD τ sig) → Buf (Elt Ideal) ℓ) (c : Dev nD) (t : Fin cfg0.N)

theorem rows (s : Fin 1024) (k : Fin 4096) :
    iblk m c 0 t (ix2 s k) = m ((c : Thread nD τ).loc main_arg0) (ix2 ⟨1024 * (rowOf t).val + s.val, by omega⟩ k) := by
  obtain ⟨⟨e0, e1⟩, -⟩ := index_at t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 4096 + 1 * k.val = k.val; omega

/-- The weights as the host casts them: over the extended reals, the weights. -/
theorem weights : (V m c main_v0 : FVec Ideal S4096x6144 .bf16) =
    truncf (F := Ideal) .bf16 (m ((c : Thread nD τ).loc main_arg1) : FVec Ideal S4096x6144 .f32) bitsLt_bf16_f32 := by
  unfold V
  after_results

theorem columns (k : Fin 4096) (l : Fin 1024) :
    iblk m c 1 t (ix2 k l) = m ((c : Thread nD τ).loc main_arg1) (ix2 k ⟨1024 * (colOf t).val + l.val, by omega⟩) := by
  obtain ⟨-, ⟨e0, e1⟩, -⟩ := index_at t
  refine (congrFun (weights m c) _).trans ?_
  show m ((c : Thread nD τ).loc main_arg1) _ = _
  refine congrArg _ (funext fun a => Fin.ext ?_)
  match a with
  | ⟨0, _⟩ => show win0_1.index t (0 : Fin 2) * 4096 + 1 * k.val = k.val; omega
  | ⟨1, _⟩ => show win0_1.index t (1 : Fin 2) * 1024 + 1 * l.val = 1024 * (colOf t).val + l.val; omega

/-- Where entry `(s, l)` of the result's block lies. -/
theorem place (s l : Fin 1024) {r : Fin 16384} {o : Fin 6144} (hr : r.val = 1024 * (rowOf t).val + s.val) (ho : o.val = 1024 * (colOf t).val + l.val) :
    ((cfg0.win 2).blk t).view.emb (ix2 s l) = ix2 r o := by
  obtain ⟨-, -, e0, e1⟩ := index_at t
  funext a; apply Fin.ext
  match a with
  | ⟨0, _⟩ => show win0_2.index t (0 : Fin 2) * 1024 + 1 * s.val = r.val; omega
  | ⟨1, _⟩ => show win0_2.index t (1 : Fin 2) * 1024 + 1 * l.val = o.val; omega

theorem covered (i : S16384x6144.Idx) : ∃ t : Fin cfg0.N, (cfg0.win 2).flush t = true ∧ i ∈ ((cfg0.win 2).blk t).view.set := by
  have h0 : (i 0).val < 16384 := (i 0).isLt
  have h1 : (i 1).val < 6144 := (i 1).isLt
  obtain ⟨t, e0, e1⟩ := points ⟨(i 0).val / 1024, by omega⟩ ⟨(i 1).val / 1024, by omega⟩
  refine ⟨t, flush0_2 t, ?_⟩
  have e := place t ⟨(i 0).val % 1024, by omega⟩ ⟨(i 1).val % 1024, by omega⟩ (r := i 0) (o := i 1)
    (by rw [e0]; show (i 0).val = 1024 * ((i 0).val / 1024) + (i 0).val % 1024; omega)
    (by rw [e1]; show (i 1).val = 1024 * ((i 1).val / 1024) + (i 1).val % 1024; omega)
  have hi : ix2 (i 0) (i 1) = i := by funext a; fin_cases a <;> rfl
  have hm := ((cfg0.win 2).blk t).view.emb_mem_set (ix2 ⟨(i 0).val % 1024, by omega⟩ ⟨(i 1).val % 1024, by omega⟩)
  rw [e] at hm
  exact hi ▸ hm

/-- On equal arguments the result array ends at the reference's result. -/
theorem final_res (h : FVec Ideal S16384x4096 .bf16) (w : FVec Ideal S4096x6144 .f32)
    (e0 : h = m ((c : Thread nD τ).loc main_arg0)) (e1 : w = m ((c : Thread nD τ).loc main_arg1)) :
    (dats m 0 c).arrAt 2 cfg0.N = res h w := by
  refine (dats m 0 c).arrAt_eq_of_cover 2 (res h w) (fun t _ => ?_) covered
  rw [Value.flushed2]
  funext j
  obtain ⟨s, l, rfl⟩ : ∃ (s l : Fin 1024), j = ix2 s l := ⟨j 0, j 1, by funext a; fin_cases a <;> rfl⟩
  refine (out_at (iblk m c 0 t) (iblk m c 1 t) s l).trans ?_
  show _ = res h w (((cfg0.win 2).blk t).view.emb (ix2 s l))
  rw [place t s l (r := ⟨1024 * (rowOf t).val + s.val, by omega⟩) (o := ⟨1024 * (colOf t).val + l.val, by omega⟩) rfl rfl]
  refine Eq.trans ?_ (res_at h w _ _).symm
  rw [e0, e1]
  exact Finset.sum_congr rfl fun k _ => congrArg₂ _ (rows m c t s k) (columns m c t k l)

end Cert.Kv

end
-- ==== Proof.AOut.lean ====
/- The first layer's output projection: the two branches' products with their parts of the weights, added, and the residual;
   together the product of the joined branches. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.PureOps.Ideal

@[expose] public section

set_option maxRecDepth 16384

noncomputable section

namespace Cert.AOut

open Idealize.ShloMosaic Idealize.ShloMosaic.TcCoe

section

open Cert.Reference5Ideal Cert.Reference5Ideal.Gen

/-- The reference's result, from its arguments. -/
def res (p : FVec Ideal S16384x3072 .bf16) (q : FVec Ideal S16384x1024 .bf16) (w : FVec Ideal S4096x4096 .f32)
    (x : FVec Ideal S16384x4096 .f32) : FVec Ideal S16384x4096 .f32 :=
  addf x (Host.dotGeneral dot_S16384x4096_S4096x4096_S16384x4096_1_0_0_1_n_n none
    (concatenate S16384x4096 1 [⟨S16384x3072, extf .f32 p Facts₀.bitsLt_bf16_f32⟩, ⟨S16384x1024, extf .f32 q Facts₀.bitsLt_bf16_f32⟩]
      Facts₀.concatenates_S16384x3072_S16384x1024_S16384x4096_d1) w)

/-- The product of the joined branches is the sum of the branches' products. -/
theorem res_at (p : FVec Ideal S16384x3072 .bf16) (q : FVec Ideal S16384x1024 .bf16) (w : FVec Ideal S4096x4096 .f32)
    (x : FVec Ideal S16384x4096 .f32) (r : Fin 16384) (o : Fin 4096) :
    res p q w x (ix2 r o) = x (ix2 r o) + (∑ k : Fin 3072, p (ix2 r k) * w (ix2 ⟨k.val, by omega⟩ o) +
      ∑ k : Fin 1024, q (ix2 r k) * w (ix2 ⟨3072 + k.val, by omega⟩ o)) := by
  pointwise! [res]

end

open Cert.Kernel5Ideal Cert.Kernel5Ideal.Gen

/-- Entry `(s, l)` of a block, from the branches' rows, the columns and the residual. -/
theorem out_at (p : FVec Ideal S1024x3072 .bf16) (q : FVec Ideal S1024x1024 .bf16) (w : FVec Ideal S4096x512 .bf16)
    (x : FVec Ideal S1024x512 .f32) (s : Fin 1024) (l : Fin 512) :
    out0_4 (F := Ideal) p q w x (ix2 s l) = x (ix2 s l) + (∑ k : Fin 3072, p (ix2 s k) * w (ix2 ⟨k.val, by omega⟩ l) +
      ∑ k : Fin 1024, q (ix2 s k) * w (ix2 ⟨3072 + k.val, by omega⟩ l)) := by
  have z : (![0, 0] : Fin 2 → Nat) = fun _ => 0 := funext fun a => by fin_cases a <;> rfl
  unfold out0_4
  rw [View.canon_unit_zero z, View.ld_unit_zero (S := S1024x3072) z, View.ld_unit_zero (S := S1024x1024) z, View.ld_unit_zero (S := S1024x512) z]
  have e1 : ∀ k : Fin 3072, (View.ld (Val := Elt Ideal) (e' := .bf16) w r0_1 : FVec Ideal S3072x512 .bf16) (ix2 k l) = w (ix2 ⟨k.val, by omega⟩ l) := fun k => by
    show w (r0_1.idx (ix2 k l)) = _
    refine congrArg w (funext fun a => Fin.ext ?_)
    match a with
    | ⟨0, _⟩ => show 0 + 1 * k.val = k.val; omega
    | ⟨1, _⟩ => show 0 + 1 * l.val = l.val; omega
  have e3 : ∀ k : Fin 1024, (View.ld (Val := Elt Ideal) (e' := .bf16) w r0_3 : FVec Ideal S1024x512 .bf16) (ix2 k l) = w (ix2 ⟨3072 + k.val, by omega⟩ l) := fun k => by
    show w (r0_3.idx (ix2 k l)) = _
    refine congrArg w (funext fun a => Fin.ext ?_)
    match a with
    | ⟨0, _⟩ => show 3072 + 1 * k.val = 3072 + k.val; omega
    | ⟨1, _⟩ => show 0 + 1 * l.val = l.val; omega
  refine (pay_at p (View.ld (Val := Elt Ideal) (e' := .bf16) w r0_1) q (View.ld (Val := Elt Ideal) (e' := .bf16) w r0_3) x s l).trans ?_
  simp only [e1, e3]
where
  pay_at (p : FVec Ideal S1024x3072 .bf16) (w1 : FVec Ideal S3072x512 .bf16) (q : FVec Ideal S1024x1024 .bf16) (w2 : FVec Ideal S1024x512 .bf16)
      (x : FVec Ideal S1024x512 .f32) (s : Fin 1024) (l : Fin 512) :
      k0_pay1 (F := Ideal) p w1 q w2 x (ix2 s l) = x (ix2 s l) + (∑ k : Fin 3072, p (ix2 s k) * w1 (ix2 k l) +
        ∑ k : Fin 1024, q (ix2 s k) * w2 (ix2 k l)) := by
    pointwise! [k0_pay1]

/-- A point's block row and column. -/
abbrev rowOf (t : Fin cfg0.N) : Fin 16 := grid0.coords t 0
abbrev colOf (t : Fin cfg0.N) : Fin 8 := grid0.coords t 1

theorem index_rows : ∀ t : Fin cfg0.N, (win0_0.index t 0 = (rowOf t).val ∧ win0_0.index t 1 = 0) ∧ win0_1.index t 0 = (rowOf t).val ∧ win0_1.index t 1 = 0 :=
  (by decide +kernel : ∀ t : Fin grid0.N, (win0_0.index t 0 = (grid0.coords t 0).val ∧ win0_0.index t 1 = 0) ∧
    win0_1.index t 0 = (grid0.coords t 0).val ∧ win0_1.index t 1 = 0)
theorem index_columns : ∀ t : Fin cfg0.N, win0_2.index t 0 = 0 ∧ win0_2.index t 1 = (colOf t).val :=
  (by decide +kernel : ∀ t : Fin grid0.N, win0_2.index t 0 = 0 ∧ win0_2.index t 1 = (grid0.coords t 1).val)
theorem index_result : ∀ t : Fin cfg0.N, (win0_3.index t 0 = (rowOf t).val ∧ win0_3.index t 1 = (colOf t).val) ∧
    win0_4.index t 0 = (rowOf t).val ∧ win0_4.index t 1 = (colOf t).val :=
  (by decide +kernel : ∀ t : Fin grid0.N, (win0_3.index t 0 = (grid0.coords t 0).val ∧ win0_3.index t 1 = (grid0.coords t 1).val) ∧
    win0_4.index t 0 = (grid0.coords t 0).val ∧ win0_4.index t 1 = (grid0.coords t 1).val)

theorem points : ∀ a : Fin 16, ∀ b : Fin 8, ∃ t : Fin cfg0.N, (rowOf t).val = a.val ∧ (colOf t).val = b.val :=
  fun a b => ⟨⟨8 * a.val + b.val, by rw [show cfg0.N = 128 from N_0]; omega⟩,
    (by decide +kernel : ∀ (a : Fin 16) (b : Fin 8), (grid0.coords ⟨8 * a.val + b.val, by rw [N_0]; omega⟩ 0).val = a.val ∧
      (grid0.coords ⟨8 * a.val + b.val, by rw [N_0]; omega⟩ 1).val = b.val) a b⟩

variable (m : (ℓ : Loc nD τ sig) → Buf (Elt Ideal) ℓ) (c : Dev nD) (t : Fin cfg0.N)

theorem first_rows (s : Fin 1024) (k : Fin 3072) :
    iblk m c 0 t (ix2 s k) = m ((c : Thread nD τ).loc main_arg0) (ix2 ⟨1024 * (rowOf t).val + s.val, by omega⟩ k) := by
  obtain ⟨⟨e0, e1⟩, -⟩ := index_rows t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 3072 + 1 * k.val = k.val; omega

theorem second_rows (s k : Fin 1024) :
    iblk m c 1 t (ix2 s k) = m ((c : Thread nD τ).loc main_arg1) (ix2 ⟨1024 * (rowOf t).val + s.val, by omega⟩ k) := by
  obtain ⟨-, e0, e1⟩ := index_rows t
  refine (congrFun (V_main_arg1 m c) _).trans (congrArg _ (funext fun a => Fin.ext ?_))
  match a with
  | ⟨0, _⟩ => show win0_1.index t (0 : Fin 2) * 1024 + 1 * s.val = 1024 * (rowOf t).val + s.val; omega
  | ⟨1, _⟩ => show win0_1.index t (1 : Fin 2) * 1024 + 1 * k.val = k.val; omega

/-- The weights as the host casts them: over the extended reals, the weights. -/
theorem weights : (V m c main_v0 : FVec Ideal S4096x4096 .bf16) =
    truncf (F := Ideal) .bf16 (m ((c : Thread nD τ).loc main_arg2) : FVec Ideal S4096x4096 .f32) bitsLt_bf16_f32 := by
  unfold V
  after_results

theorem columns (k : Fin 4096) (l : Fin 512) :
    iblk m c 2 t (ix2 k l) = m ((c : Thread nD τ).loc main_arg2) (ix2 k ⟨512 * (colOf t).val + l.val, by omega⟩) := by
  obtain ⟨e0, e1⟩ := index_columns t
  refine (congrFun (weights m c) _).trans ?_
  show m ((c : Thread nD τ).loc main_arg2) _ = _
  refine congrArg _ (funext fun a => Fin.ext ?_)
  match a with
  | ⟨0, _⟩ => show win0_2.index t (0 : Fin 2) * 4096 + 1 * k.val = k.val; omega
  | ⟨1, _⟩ => show win0_2.index t (1 : Fin 2) * 512 + 1 * l.val = 512 * (colOf t).val + l.val; omega

theorem residual (s : Fin 1024) (l : Fin 512) :
    iblk m c 3 t (ix2 s l) = m ((c : Thread nD τ).loc main_arg3) (ix2 ⟨1024 * (rowOf t).val + s.val, by omega⟩ ⟨512 * (colOf t).val + l.val, by omega⟩) := by
  obtain ⟨⟨e0, e1⟩, -⟩ := index_result t
  refine (congrFun (V_main_arg3 m c) _).trans (congrArg _ (funext fun a => Fin.ext ?_))
  match a with
  | ⟨0, _⟩ => show win0_3.index t (0 : Fin 2) * 1024 + 1 * s.val = 1024 * (rowOf t).val + s.val; omega
  | ⟨1, _⟩ => show win0_3.index t (1 : Fin 2) * 512 + 1 * l.val = 512 * (colOf t).val + l.val; omega

/-- Where entry `(s, l)` of the result's block lies. -/
theorem place (s : Fin 1024) (l : Fin 512) {r : Fin 16384} {o : Fin 4096} (hr : r.val = 1024 * (rowOf t).val + s.val) (ho : o.val = 512 * (colOf t).val + l.val) :
    ((cfg0.win 4).blk t).view.emb (ix2 s l) = ix2 r o := by
  obtain ⟨-, e0, e1⟩ := index_result t
  funext a; apply Fin.ext
  match a with
  | ⟨0, _⟩ => show win0_4.index t (0 : Fin 2) * 1024 + 1 * s.val = r.val; omega
  | ⟨1, _⟩ => show win0_4.index t (1 : Fin 2) * 512 + 1 * l.val = o.val; omega

theorem covered (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  obtain ⟨t, e0, e1⟩ := points ⟨(i 0).val / 1024, by omega⟩ ⟨(i 1).val / 512, by omega⟩
  refine ⟨t, flush0_4 t, ?_⟩
  have e := place t ⟨(i 0).val % 1024, by omega⟩ ⟨(i 1).val % 512, by omega⟩ (r := i 0) (o := i 1)
    (by rw [e0]; show (i 0).val = 1024 * ((i 0).val / 1024) + (i 0).val % 1024; omega)
    (by rw [e1]; show (i 1).val = 512 * ((i 1).val / 512) + (i 1).val % 512; omega)
  have hi : ix2 (i 0) (i 1) = i := by funext a; fin_cases a <;> rfl
  have hm := ((cfg0.win 4).blk t).view.emb_mem_set (ix2 ⟨(i 0).val % 1024, by omega⟩ ⟨(i 1).val % 512, by omega⟩)
  rw [e] at hm
  exact hi ▸ hm

/-- On equal arguments the result array ends at the reference's result. -/
theorem final_res (p : FVec Ideal S16384x3072 .bf16) (q : FVec Ideal S16384x1024 .bf16) (w : FVec Ideal S4096x4096 .f32) (x : FVec Ideal S16384x4096 .f32)
    (e0 : p = m ((c : Thread nD τ).loc main_arg0)) (e1 : q = m ((c : Thread nD τ).loc main_arg1))
    (e2 : w = m ((c : Thread nD τ).loc main_arg2)) (e3 : x = m ((c : Thread nD τ).loc main_arg3)) :
    (dats m 0 c).arrAt 4 cfg0.N = res p q w x := by
  refine (dats m 0 c).arrAt_eq_of_cover 4 (res p q w x) (fun t _ => ?_) covered
  rw [Value.flushed4]
  funext j
  obtain ⟨s, l, rfl⟩ : ∃ (s : Fin 1024) (l : Fin 512), j = ix2 s l := ⟨j 0, j 1, by funext a; fin_cases a <;> rfl⟩
  refine (out_at (iblk m c 0 t) (iblk m c 1 t) (iblk m c 2 t) (iblk m c 3 t) s l).trans ?_
  show _ = res p q w x (((cfg0.win 4).blk t).view.emb (ix2 s l))
  rw [place t s l (r := ⟨1024 * (rowOf t).val + s.val, by omega⟩) (o := ⟨512 * (colOf t).val + l.val, by omega⟩) rfl rfl]
  refine Eq.trans ?_ (res_at p q w x _ _).symm
  rw [e0, e1, e2, e3]
  exact congrArg₂ _ (residual m c t s l) (congrArg₂ _
    (Finset.sum_congr rfl fun k _ => congrArg₂ _ (first_rows m c t s k) (columns m c t ⟨k.val, by omega⟩ l))
    (Finset.sum_congr rfl fun k _ => congrArg₂ _ (second_rows m c t s k) (columns m c t ⟨3072 + k.val, by omega⟩ l)))

end Cert.AOut

end
-- ==== Proof.Norm.lean ====
/- The last norm: each row divided by the root of its mean square, times the gains. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.Value
public import Idealize.ShloMosaic.PureOps.Ideal

@[expose] public section

set_option maxRecDepth 16384

noncomputable section

namespace Cert.Norm

open Idealize.ShloMosaic Idealize.ShloMosaic.TcCoe

/-- Entry `o` of a row, normed: the mean is the sum over the word of 4096, and the word of 1e-6 is added to it. -/
def normed (x : Fin 4096 → EReal) (o : Fin 4096) : EReal :=
  x o * Ideal.rsqrt (Ideal.div (∑ k, x k * x k) (Ideal.ofBits .f32 0x45800000#32) + Ideal.ofBits .f32 0x358637BD#32)

section

open Cert.Reference6Ideal Cert.Reference6Ideal.Gen

/-- The reference's result, from its arguments. -/
def res (x : FVec Ideal S16384x4096 .f32) (g : FVec Ideal S4096 .f32) : FVec Ideal S16384x4096 .f32 :=
  mulf (mulf x (broadcastInDim S16384x4096 ![0, 1] Facts₀.bcast_S16384x1_S16384x4096_0_1
      (Host.rsqrt (addf (Host.divf (broadcastInDim S16384x1 ![0] Facts₀.bcast_S16384_S16384x1_0
          (Host.reduceAdd (mulf x x) (constant S_ .f32 0x00000000#32) Facts₀.reducesTo_S16384x4096_S16384_d1 Facts₀.h_S_))
          (broadcastInDim S16384x1 ![] Facts₀.bcast_S_S16384x1 (constant S_ .f32 0x45800000#32)))
        (broadcastInDim S16384x1 ![] Facts₀.bcast_S_S16384x1 (constant S_ .f32 0x358637BD#32))))))
    (broadcastInDim S16384x4096 ![0, 1] Facts₀.bcast_S1x4096_S16384x4096_0_1 (broadcastInDim S1x4096 ![1] Facts₀.bcast_S4096_S1x4096_1 g))

theorem res_at (x : FVec Ideal S16384x4096 .f32) (g : FVec Ideal S4096 .f32) (r : Fin 16384) (o : Fin 4096) :
    res x g (ix2 r o) = normed (fun k => x (ix2 r k)) o * g (ix1 o) := by
  pointwise! [res, normed]

end

open Cert.Kernel6Ideal Cert.Kernel6Ideal.Gen

/-- Entry `(s, o)` of a block, from the rows and the gains. -/
theorem out_at (x : FVec Ideal S256x4096 .f32) (g : FVec Ideal S1x4096 .f32) (s : Fin 256) (o : Fin 4096) :
    out0_2 (F := Ideal) x g (ix2 s o) = normed (fun k => x (ix2 s k)) o * g (ix2 0 o) := by
  have z : (![0, 0] : Fin 2 → Nat) = fun _ => 0 := funext fun a => by fin_cases a <;> rfl
  unfold out0_2
  rw [View.canon_unit_zero z, View.ld_unit_zero (S := S256x4096) z, View.ld_unit_zero (S := S1x4096) z]
  pointwise! [k0_pay1, normed]

/-- A point's block row. -/
abbrev rowOf (t : Fin cfg0.N) : Fin 64 := grid0.coords t 0

/-- The blocks that the windows hold at a point: its rows, and all gains. -/
theorem index_at : ∀ t : Fin cfg0.N, (win0_0.index t 0 = (rowOf t).val ∧ win0_0.index t 1 = 0) ∧
    (win0_1.index t 0 = 0 ∧ win0_1.index t 1 = 0) ∧ win0_2.index t 0 = (rowOf t).val ∧ win0_2.index t 1 = 0 :=
  (by decide +kernel : ∀ t : Fin grid0.N, (win0_0.index t 0 = (grid0.coords t 0).val ∧ win0_0.index t 1 = 0) ∧
    (win0_1.index t 0 = 0 ∧ win0_1.index t 1 = 0) ∧ win0_2.index t 0 = (grid0.coords t 0).val ∧ win0_2.index t 1 = 0)

theorem points : ∀ a : Fin 64, ∃ t : Fin cfg0.N, (rowOf t).val = a.val :=
  fun a => ⟨⟨a.val, by rw [show cfg0.N = 64 from N_0]; omega⟩,
    (by decide +kernel : ∀ a : Fin 64, (grid0.coords ⟨a.val, by rw [N_0]; omega⟩ 0).val = a.val) a⟩

variable (m : (ℓ : Loc nD τ sig) → Buf (Elt Ideal) ℓ) (c : Dev nD) (t : Fin cfg0.N)

theorem rows (s : Fin 256) (k : Fin 4096) :
    iblk m c 0 t (ix2 s k) = m ((c : Thread nD τ).loc main_arg0) (ix2 ⟨256 * (rowOf t).val + s.val, by omega⟩ k) := by
  obtain ⟨⟨e0, e1⟩, -⟩ := index_at t
  refine (congrFun (V_main_arg0 m c) _).trans (congrArg _ (funext fun a => Fin.ext ?_))
  match a with
  | ⟨0, _⟩ => show win0_0.index t (0 : Fin 2) * 256 + 1 * s.val = 256 * (rowOf t).val + s.val; omega
  | ⟨1, _⟩ => show win0_0.index t (1 : Fin 2) * 4096 + 1 * k.val = k.val; omega

/-- The gains as the host lays them out, in one row. -/
theorem stacked : (V m c main_v0 : FVec Ideal S1x4096 .f32) =
    broadcastInDim S1x4096 ![1] bcast_S4096_S1x4096_1 (m ((c : Thread nD τ).loc main_arg1) : FVec Ideal S4096 .f32) := by
  unfold V
  after_results

theorem gains (o : Fin 4096) : iblk m c 1 t (ix2 0 o) = m ((c : Thread nD τ).loc main_arg1) (ix1 o) := by
  obtain ⟨-, ⟨e0, e1⟩, -⟩ := index_at t
  have e : ∀ g : FVec Ideal S4096 .f32, broadcastInDim S1x4096 ![1] bcast_S4096_S1x4096_1 g (ix2 0 o) = g (ix1 o) := by
    intro g
    pointwise!
  refine Eq.trans ?_ (e _)
  refine (congrFun (stacked m c) _).trans (congrArg _ (funext fun a => Fin.ext ?_))
  match a with
  | ⟨0, _⟩ => show win0_1.index t (0 : Fin 2) * 1 + 1 * 0 = 0; omega
  | ⟨1, _⟩ => show win0_1.index t (1 : Fin 2) * 4096 + 1 * o.val = o.val; omega

/-- Where entry `(s, o)` of the result's block lies. -/
theorem place (s : Fin 256) (o : Fin 4096) {r : Fin 16384} (hr : r.val = 256 * (rowOf t).val + s.val) :
    ((cfg0.win 2).blk t).view.emb (ix2 s o) = ix2 r o := by
  obtain ⟨-, -, e0, e1⟩ := index_at t
  funext a; apply Fin.ext
  match a with
  | ⟨0, _⟩ => show win0_2.index t (0 : Fin 2) * 256 + 1 * s.val = r.val; omega
  | ⟨1, _⟩ => show win0_2.index t (1 : Fin 2) * 4096 + 1 * o.val = o.val; omega

theorem covered (i : S16384x4096.Idx) : ∃ t : Fin cfg0.N, (cfg0.win 2).flush t = true ∧ i ∈ ((cfg0.win 2).blk t).view.set := by
  have h0 : (i 0).val < 16384 := (i 0).isLt
  obtain ⟨t, e0⟩ := points ⟨(i 0).val / 256, by omega⟩
  refine ⟨t, flush0_2 t, ?_⟩
  have e := place t ⟨(i 0).val % 256, by omega⟩ (i 1) (r := i 0) (by rw [e0]; show (i 0).val = 256 * ((i 0).val / 256) + (i 0).val % 256; omega)
  have hi : ix2 (i 0) (i 1) = i := by funext a; fin_cases a <;> rfl
  have hm := ((cfg0.win 2).blk t).view.emb_mem_set (ix2 ⟨(i 0).val % 256, by omega⟩ (i 1))
  rw [e] at hm
  exact hi ▸ hm

/-- On equal arguments the result array ends at the reference's result. -/
theorem final_res (x : FVec Ideal S16384x4096 .f32) (g : FVec Ideal S4096 .f32)
    (e0 : x = m ((c : Thread nD τ).loc main_arg0)) (e1 : g = m ((c : Thread nD τ).loc main_arg1)) :
    (dats m 0 c).arrAt 2 cfg0.N = res x g := by
  refine (dats m 0 c).arrAt_eq_of_cover 2 (res x g) (fun t _ => ?_) covered
  rw [Value.flushed2]
  funext j
  obtain ⟨s, o, rfl⟩ : ∃ (s : Fin 256) (o : Fin 4096), j = ix2 s o := ⟨j 0, j 1, by funext a; fin_cases a <;> rfl⟩
  refine (out_at (iblk m c 0 t) (iblk m c 1 t) s o).trans ?_
  show _ = res x g (((cfg0.win 2).blk t).view.emb (ix2 s o))
  rw [place t s o (r := ⟨256 * (rowOf t).val + s.val, by omega⟩) rfl]
  refine Eq.trans ?_ (res_at x g _ _).symm
  rw [e0, e1]
  exact congrArg₂ _ (congrArg (fun y => normed y o) (funext fun k => rows m c t s k)) (gains m c t o)

end Cert.Norm

end
-- ==== Proof.BOut.lean ====
/- The second layer's output projection: the dilated attention's and the memory attention's products with the two halves of the
   weights' rows, and the residual; together the product of the joined branches. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.Value
public import Idealize.ShloMosaic.PureOps.Ideal

@[expose] public section

set_option maxRecDepth 16384

noncomputable section

namespace Cert.BOut

open Idealize.ShloMosaic Idealize.ShloMosaic.TcCoe

section

open Cert.Reference7Ideal Cert.Reference7Ideal.Gen

/-- The reference's result, from its arguments. -/
def res (p q : FVec Ideal S16384x1024 .bf16) (w : FVec Ideal S2048x4096 .f32) (x : FVec Ideal S16384x4096 .f32) : FVec Ideal S16384x4096 .f32 :=
  addf x (Host.dotGeneral dot_S16384x2048_S2048x4096_S16384x4096_1_0_0_1_n_n none
    (concatenate S16384x2048 1 [⟨S16384x1024, extf .f32 p Facts₀.bitsLt_bf16_f32⟩, ⟨S16384x1024, extf .f32 q Facts₀.bitsLt_bf16_f32⟩]
      Facts₀.concatenates_S16384x1024_S16384x1024_S16384x2048_d1) w)

theorem res_at (p q : FVec Ideal S16384x1024 .bf16) (w : FVec Ideal S2048x4096 .f32) (x : FVec Ideal S16384x4096 .f32) (r : Fin 16384) (o : Fin 4096) :
    res p q w x (ix2 r o) = x (ix2 r o) + (∑ k : Fin 1024, p (ix2 r k) * w (ix2 ⟨k.val, by omega⟩ o) +
      ∑ k : Fin 1024, q (ix2 r k) * w (ix2 ⟨1024 + k.val, by omega⟩ o)) := by
  pointwise! [res]

end

open Cert.Kernel7Ideal Cert.Kernel7Ideal.Gen

theorem pay_at (p w1 q w2 : FVec Ideal S1024x1024 .bf16) (x : FVec Ideal S1024x1024 .f32) (s l : Fin 1024) :
    k0_pay1 (F := Ideal) p w1 q w2 x (ix2 s l) = x (ix2 s l) + (∑ k : Fin 1024, p (ix2 s k) * w1 (ix2 k l) + ∑ k : Fin 1024, q (ix2 s k) * w2 (ix2 k l)) := by
  pointwise! [k0_pay1]

/-- Entry `(s, l)` of a block: the lower half of the columns goes with the second branch. -/
theorem out_at (p q : FVec Ideal S1024x1024 .bf16) (w : FVec Ideal S2048x1024 .bf16) (x : FVec Ideal S1024x1024 .f32) (s l : Fin 1024) :
    out0_4 (F := Ideal) p q w x (ix2 s l) = x (ix2 s l) + (∑ k : Fin 1024, p (ix2 s k) * w (ix2 ⟨k.val, by omega⟩ l) +
      ∑ k : Fin 1024, q (ix2 s k) * w (ix2 ⟨1024 + k.val, by omega⟩ l)) := by
  have z : (![0, 0] : Fin 2 → Nat) = fun _ => 0 := funext fun a => by fin_cases a <;> rfl
  have e1 : ∀ k : Fin 1024, (View.ld (Val := Elt Ideal) (e' := .bf16) w r0_1 : FVec Ideal S1024x1024 .bf16) (ix2 k l) = w (ix2 ⟨k.val, by omega⟩ l) := fun k => by
    show w (r0_1.idx (ix2 k l)) = _
    refine congrArg w (funext fun a => Fin.ext ?_)
    match a with
    | ⟨0, _⟩ => show 0 + 1 * k.val = k.val; omega
    | ⟨1, _⟩ => show 0 + 1 * l.val = l.val; omega
  have e2 : ∀ k : Fin 1024, (View.ld (Val := Elt Ideal) (e' := .bf16) w r0_2 : FVec Ideal S1024x1024 .bf16) (ix2 k l) = w (ix2 ⟨1024 + k.val, by omega⟩ l) := fun k => by
    show w (r0_2.idx (ix2 k l)) = _
    refine congrArg w (funext fun a => Fin.ext ?_)
    match a with
    | ⟨0, _⟩ => show 1024 + 1 * k.val = 1024 + k.val; omega
    | ⟨1, _⟩ => show 0 + 1 * l.val = l.val; omega
  unfold out0_4
  rw [View.canon_unit_zero z, View.ld_unit_zero (S := S1024x1024) z, View.ld_unit_zero (S := S1024x1024) z, View.ld_unit_zero (S := S1024x1024) z]
  refine (pay_at p (View.ld (Val := Elt Ideal) (e' := .bf16) w r0_1) q (View.ld (Val := Elt Ideal) (e' := .bf16) w r0_2) x s l).trans ?_
  simp only [e1, e2]

/-- A point's block row and column. -/
abbrev rowOf (t : Fin cfg0.N) : Fin 16 := grid0.coords t 0
abbrev colOf (t : Fin cfg0.N) : Fin 4 := grid0.coords t 1

/-- The branches' blocks are the point's rows, the weights' its columns. -/
theorem index_args : ∀ t : Fin cfg0.N, ((win0_0.index t 0 = (rowOf t).val ∧ win0_0.index t 1 = 0) ∧ win0_1.index t 0 = (rowOf t).val ∧ win0_1.index t 1 = 0) ∧
    win0_2.index t 0 = 0 ∧ win0_2.index t 1 = (colOf t).val :=
  (by decide +kernel : ∀ t : Fin grid0.N, ((win0_0.index t 0 = (grid0.coords t 0).val ∧ win0_0.index t 1 = 0) ∧
    win0_1.index t 0 = (grid0.coords t 0).val ∧ win0_1.index t 1 = 0) ∧ win0_2.index t 0 = 0 ∧ win0_2.index t 1 = (grid0.coords t 1).val)

/-- The residual's block and the result's are the same. -/
theorem index_result : ∀ t : Fin cfg0.N, (win0_3.index t 0 = (rowOf t).val ∧ win0_3.index t 1 = (colOf t).val) ∧
    win0_4.index t 0 = (rowOf t).val ∧ win0_4.index t 1 = (colOf t).val :=
  (by decide +kernel : ∀ t : Fin grid0.N, (win0_3.index t 0 = (grid0.coords t 0).val ∧ win0_3.index t 1 = (grid0.coords t 1).val) ∧
    win0_4.index t 0 = (grid0.coords t 0).val ∧ win0_4.index t 1 = (grid0.coords t 1).val)

theorem points : ∀ (a : Fin 16) (b : Fin 4), ∃ t : Fin cfg0.N, (rowOf t).val = a.val ∧ (colOf t).val = b.val :=
  fun a b => ⟨⟨4 * a.val + b.val, by rw [show cfg0.N = 64 from N_0]; omega⟩,
    (by decide +kernel : ∀ (a : Fin 16) (b : Fin 4), (grid0.coords ⟨4 * a.val + b.val, by rw [N_0]; omega⟩ 0).val = a.val ∧
      (grid0.coords ⟨4 * a.val + b.val, by rw [N_0]; omega⟩ 1).val = b.val) a b⟩

variable (m : (ℓ : Loc nD τ sig) → Buf (Elt Ideal) ℓ) (c : Dev nD) (t : Fin cfg0.N)

theorem dilated_rows (s k : Fin 1024) :
    iblk m c 0 t (ix2 s k) = m ((c : Thread nD τ).loc main_arg0) (ix2 ⟨1024 * (rowOf t).val + s.val, by omega⟩ k) := by
  obtain ⟨⟨⟨e0, e1⟩, -⟩, -⟩ := index_args t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 1024 + 1 * k.val = k.val; omega

theorem memory_rows (s k : Fin 1024) :
    iblk m c 1 t (ix2 s k) = m ((c : Thread nD τ).loc main_arg1) (ix2 ⟨1024 * (rowOf t).val + s.val, by omega⟩ k) := by
  obtain ⟨⟨-, e0, e1⟩, -⟩ := index_args t
  refine (congrFun (V_main_arg1 m c) _).trans (congrArg _ (funext fun a => Fin.ext ?_))
  match a with
  | ⟨0, _⟩ => show win0_1.index t (0 : Fin 2) * 1024 + 1 * s.val = 1024 * (rowOf t).val + s.val; omega
  | ⟨1, _⟩ => show win0_1.index t (1 : Fin 2) * 1024 + 1 * k.val = k.val; omega

/-- The weights as the host casts them: over the extended reals, the weights. -/
theorem weights : (V m c main_v0 : FVec Ideal S2048x4096 .bf16) =
    truncf (F := Ideal) .bf16 (m ((c : Thread nD τ).loc main_arg2) : FVec Ideal S2048x4096 .f32) bitsLt_bf16_f32 := by
  unfold V
  after_results

theorem columns (k : Fin 2048) (l : Fin 1024) :
    iblk m c 2 t (ix2 k l) = m ((c : Thread nD τ).loc main_arg2) (ix2 k ⟨1024 * (colOf t).val + l.val, by omega⟩) := by
  obtain ⟨-, e0, e1⟩ := index_args t
  refine (congrFun (weights m c) _).trans ?_
  show m ((c : Thread nD τ).loc main_arg2) _ = _
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * l.val = 1024 * (colOf t).val + l.val; omega

theorem residual (s l : Fin 1024) : iblk m c 3 t (ix2 s l) =
    m ((c : Thread nD τ).loc main_arg3) (ix2 ⟨1024 * (rowOf t).val + s.val, by omega⟩ ⟨1024 * (colOf t).val + l.val, by omega⟩) := by
  obtain ⟨⟨e0, e1⟩, -⟩ := index_result t
  refine (congrFun (V_main_arg3 m c) _).trans (congrArg _ (funext fun a => Fin.ext ?_))
  match a with
  | ⟨0, _⟩ => show win0_3.index t (0 : Fin 2) * 1024 + 1 * s.val = 1024 * (rowOf t).val + s.val; omega
  | ⟨1, _⟩ => show win0_3.index t (1 : Fin 2) * 1024 + 1 * l.val = 1024 * (colOf t).val + l.val; omega

/-- Where entry `(s, l)` of the result's block lies. -/
theorem place (s l : Fin 1024) {r : Fin 16384} {o : Fin 4096} (hr : r.val = 1024 * (rowOf t).val + s.val) (ho : o.val = 1024 * (colOf t).val + l.val) :
    ((cfg0.win 4).blk t).view.emb (ix2 s l) = ix2 r o := by
  obtain ⟨-, e0, e1⟩ := index_result t
  funext a; apply Fin.ext
  match a with
  | ⟨0, _⟩ => show win0_4.index t (0 : Fin 2) * 1024 + 1 * s.val = r.val; omega
  | ⟨1, _⟩ => show win0_4.index t (1 : Fin 2) * 1024 + 1 * l.val = o.val; omega

theorem covered (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  obtain ⟨t, e0, e1⟩ := points ⟨(i 0).val / 1024, by omega⟩ ⟨(i 1).val / 1024, by omega⟩
  refine ⟨t, flush0_4 t, ?_⟩
  have e := place t ⟨(i 0).val % 1024, by omega⟩ ⟨(i 1).val % 1024, by omega⟩ (r := i 0) (o := i 1)
    (by rw [e0]; show (i 0).val = 1024 * ((i 0).val / 1024) + (i 0).val % 1024; omega)
    (by rw [e1]; show (i 1).val = 1024 * ((i 1).val / 1024) + (i 1).val % 1024; omega)
  have hi : ix2 (i 0) (i 1) = i := by funext a; fin_cases a <;> rfl
  have hm := ((cfg0.win 4).blk t).view.emb_mem_set (ix2 ⟨(i 0).val % 1024, by omega⟩ ⟨(i 1).val % 1024, by omega⟩)
  rw [e] at hm
  exact hi ▸ hm

/-- On equal arguments the result array ends at the reference's result. -/
theorem final_res (p q : FVec Ideal S16384x1024 .bf16) (w : FVec Ideal S2048x4096 .f32) (x : FVec Ideal S16384x4096 .f32)
    (e0 : p = m ((c : Thread nD τ).loc main_arg0)) (e1 : q = m ((c : Thread nD τ).loc main_arg1))
    (e2 : w = m ((c : Thread nD τ).loc main_arg2)) (e3 : x = m ((c : Thread nD τ).loc main_arg3)) :
    (dats m 0 c).arrAt 4 cfg0.N = res p q w x := by
  refine (dats m 0 c).arrAt_eq_of_cover 4 (res p q w x) (fun t _ => ?_) covered
  rw [Value.flushed4]
  funext j
  obtain ⟨s, l, rfl⟩ : ∃ (s l : Fin 1024), j = ix2 s l := ⟨j 0, j 1, by funext a; fin_cases a <;> rfl⟩
  refine (out_at (iblk m c 0 t) (iblk m c 1 t) (iblk m c 2 t) (iblk m c 3 t) s l).trans ?_
  show _ = res p q w x (((cfg0.win 4).blk t).view.emb (ix2 s l))
  rw [place t s l (r := ⟨1024 * (rowOf t).val + s.val, by omega⟩) (o := ⟨1024 * (colOf t).val + l.val, by omega⟩) rfl rfl]
  refine Eq.trans ?_ (res_at p q w x _ _).symm
  rw [e0, e1, e2, e3]
  exact congrArg₂ _ (residual m c t s l) (congrArg₂ _
    (Finset.sum_congr rfl fun k _ => congrArg₂ _ (dilated_rows m c t s k) (columns m c t ⟨k.val, by omega⟩ l))
    (Finset.sum_congr rfl fun k _ => congrArg₂ _ (memory_rows m c t s k) (columns m c t ⟨1024 + k.val, by omega⟩ l)))

end Cert.BOut

end
-- ==== Proof.Query.lean ====
/- The projection of the dilated attention's queries: the call computes the first 3072 columns of the product, in blocks of 1024
   rows and 1024 columns; the reference takes them from the whole product. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.Value
public import Idealize.ShloMosaic.PureOps.Ideal

@[expose] public section

set_option maxRecDepth 16384

noncomputable section

namespace Cert.Query

open Idealize.ShloMosaic Idealize.ShloMosaic.TcCoe

section

open Cert.Reference8Ideal Cert.Reference8Ideal.Gen

/-- The reference's result, from its arguments. -/
def res (h : FVec Ideal S16384x4096 .bf16) (w : FVec Ideal S4096x4096 .f32) : FVec Ideal S16384x3072 .f32 :=
  extractStridedSlice S16384x3072 ![0, 0] (Host.dotGeneral dot_S16384x4096_S4096x4096_S16384x4096_1_0_0_1_n_n none (extf .f32 h Facts₀.bitsLt_bf16_f32) w)
    Facts₀.slices_S16384x4096_S16384x3072_0_0

theorem res_at (h : FVec Ideal S16384x4096 .bf16) (w : FVec Ideal S4096x4096 .f32) (r : Fin 16384) (o : Fin 3072) :
    res h w (ix2 r o) = ∑ k : Fin 4096, h (ix2 r k) * w (ix2 k ⟨o.val, by omega⟩) := by
  pointwise! [res]

end

open Cert.Kernel8Ideal Cert.Kernel8Ideal.Gen

/-- Entry `(s, l)` of a block, from the rows and the columns. -/
theorem out_at (x : FVec Ideal S1024x4096 .bf16) (w : FVec Ideal S4096x1024 .bf16) (s l : Fin 1024) :
    out0_2 (F := Ideal) x w (ix2 s l) = ∑ k : Fin 4096, x (ix2 s k) * w (ix2 k l) := by
  have z : (![0, 0] : Fin 2 → Nat) = fun _ => 0 := funext fun a => by fin_cases a <;> rfl
  unfold out0_2
  rw [View.canon_unit_zero z, View.ld_unit_zero (S := S1024x4096) z, View.ld_unit_zero (S := S4096x1024) z]
  pointwise! [k0_pay1]

/-- A point's block row and column: the three columns of blocks leave the fourth of the weights out. -/
abbrev rowOf (t : Fin cfg0.N) : Fin 16 := grid0.coords t 0
abbrev colOf (t : Fin cfg0.N) : Fin 3 := grid0.coords t 1

theorem index_at : ∀ t : Fin cfg0.N, (win0_0.index t 0 = (rowOf t).val ∧ win0_0.index t 1 = 0) ∧
    (win0_1.index t 0 = 0 ∧ win0_1.index t 1 = (colOf t).val) ∧ win0_2.index t 0 = (rowOf t).val ∧ win0_2.index t 1 = (colOf t).val :=
  (by decide +kernel : ∀ t : Fin grid0.N, (win0_0.index t 0 = (grid0.coords t 0).val ∧ win0_0.index t 1 = 0) ∧
    (win0_1.index t 0 = 0 ∧ win0_1.index t 1 = (grid0.coords t 1).val) ∧ win0_2.index t 0 = (grid0.coords t 0).val ∧ win0_2.index t 1 = (grid0.coords t 1).val)

theorem points : ∀ (a : Fin 16) (b : Fin 3), ∃ t : Fin cfg0.N, (rowOf t).val = a.val ∧ (colOf t).val = b.val :=
  fun a b => ⟨⟨3 * a.val + b.val, by rw [show cfg0.N = 48 from N_0]; omega⟩,
    (by decide +kernel : ∀ (a : Fin 16) (b : Fin 3), (grid0.coords ⟨3 * a.val + b.val, by rw [N_0]; omega⟩ 0).val = a.val ∧
      (grid0.coords ⟨3 * a.val + b.val, by rw [N_0]; omega⟩ 1).val = b.val) a b⟩

variable (m : (ℓ : Loc nD τ sig) → Buf (Elt Ideal) ℓ) (c : Dev nD) (t : Fin cfg0.N)

theorem rows (s : Fin 1024) (k : Fin 4096) :
    iblk m c 0 t (ix2 s k) = m ((c : Thread nD τ).loc main_arg0) (ix2 ⟨1024 * (rowOf t).val + s.val, by omega⟩ k) := by
  obtain ⟨⟨e0, e1⟩, -⟩ := index_at t
  refine (congrFun (V_main_arg0 m c) _).trans (congrArg _ (funext fun a => Fin.ext ?_))
  match a with
  | ⟨0, _⟩ => show win0_0.index t (0 : Fin 2) * 1024 + 1 * s.val = 1024 * (rowOf t).val + s.val; omega
  | ⟨1, _⟩ => show win0_0.index t (1 : Fin 2) * 4096 + 1 * k.val = k.val; omega

/-- The weights as the host casts them: over the extended reals, the weights. -/
theorem weights : (V m c main_v0 : FVec Ideal S4096x4096 .bf16) =
    truncf (F := Ideal) .bf16 (m ((c : Thread nD τ).loc main_arg1) : FVec Ideal S4096x4096 .f32) bitsLt_bf16_f32 := by
  unfold V
  after_results

theorem columns (k : Fin 4096) (l : Fin 1024) :
    iblk m c 1 t (ix2 k l) = m ((c : Thread nD τ).loc main_arg1) (ix2 k ⟨1024 * (colOf t).val + l.val, by omega⟩) := by
  obtain ⟨-, ⟨e0, e1⟩, -⟩ := index_at t
  refine (congrFun (weights m c) _).trans ?_
  show m ((c : Thread nD τ).loc main_arg1) _ = _
  refine congrArg _ (funext fun a => Fin.ext ?_)
  match a with
  | ⟨0, _⟩ => show win0_1.index t (0 : Fin 2) * 4096 + 1 * k.val = k.val; omega
  | ⟨1, _⟩ => show win0_1.index t (1 : Fin 2) * 1024 + 1 * l.val = 1024 * (colOf t).val + l.val; omega

/-- Where entry `(s, l)` of the result's block lies. -/
theorem place (s l : Fin 1024) {r : Fin 16384} {o : Fin 3072} (hr : r.val = 1024 * (rowOf t).val + s.val) (ho : o.val = 1024 * (colOf t).val + l.val) :
    ((cfg0.win 2).blk t).view.emb (ix2 s l) = ix2 r o := by
  obtain ⟨-, -, e0, e1⟩ := index_at t
  funext a; apply Fin.ext
  match a with
  | ⟨0, _⟩ => show win0_2.index t (0 : Fin 2) * 1024 + 1 * s.val = r.val; omega
  | ⟨1, _⟩ => show win0_2.index t (1 : Fin 2) * 1024 + 1 * l.val = o.val; omega

theorem covered (i : S16384x3072.Idx) : ∃ t : Fin cfg0.N, (cfg0.win 2).flush t = true ∧ i ∈ ((cfg0.win 2).blk t).view.set := by
  have h0 : (i 0).val < 16384 := (i 0).isLt
  have h1 : (i 1).val < 3072 := (i 1).isLt
  obtain ⟨t, e0, e1⟩ := points ⟨(i 0).val / 1024, by omega⟩ ⟨(i 1).val / 1024, by omega⟩
  refine ⟨t, flush0_2 t, ?_⟩
  have e := place t ⟨(i 0).val % 1024, by omega⟩ ⟨(i 1).val % 1024, by omega⟩ (r := i 0) (o := i 1)
    (by rw [e0]; show (i 0).val = 1024 * ((i 0).val / 1024) + (i 0).val % 1024; omega)
    (by rw [e1]; show (i 1).val = 1024 * ((i 1).val / 1024) + (i 1).val % 1024; omega)
  have hi : ix2 (i 0) (i 1) = i := by funext a; fin_cases a <;> rfl
  have hm := ((cfg0.win 2).blk t).view.emb_mem_set (ix2 ⟨(i 0).val % 1024, by omega⟩ ⟨(i 1).val % 1024, by omega⟩)
  rw [e] at hm
  exact hi ▸ hm

/-- On equal arguments the result array ends at the reference's result. -/
theorem final_res (h : FVec Ideal S16384x4096 .bf16) (w : FVec Ideal S4096x4096 .f32)
    (e0 : h = m ((c : Thread nD τ).loc main_arg0)) (e1 : w = m ((c : Thread nD τ).loc main_arg1)) :
    (dats m 0 c).arrAt 2 cfg0.N = res h w := by
  refine (dats m 0 c).arrAt_eq_of_cover 2 (res h w) (fun t _ => ?_) covered
  rw [Value.flushed2]
  funext j
  obtain ⟨s, l, rfl⟩ : ∃ (s l : Fin 1024), j = ix2 s l := ⟨j 0, j 1, by funext a; fin_cases a <;> rfl⟩
  refine (out_at (iblk m c 0 t) (iblk m c 1 t) s l).trans ?_
  show _ = res h w (((cfg0.win 2).blk t).view.emb (ix2 s l))
  rw [place t s l (r := ⟨1024 * (rowOf t).val + s.val, by omega⟩) (o := ⟨1024 * (colOf t).val + l.val, by omega⟩) rfl rfl]
  refine Eq.trans ?_ (res_at h w _ _).symm
  rw [e0, e1]
  exact Finset.sum_congr rfl fun k _ => congrArg₂ _ (rows m c t s k) (columns m c t k l)

end Cert.Query

end
-- ==== Proof.MemRef.lean ====
/- The reference's memory attention at a row and a column: the softmax over the 256 keys of the memory. -/
module

public import proofs.«01_k».proof.Proof.Gen.Reference9Ideal.Run
public import proofs.«01_k».proof.Proof.Row
public import Idealize.ShloMosaic.Lib.Pointwise
public import Idealize.ShloMosaic.Lib.Pipeline.Value

@[expose] public section

set_option maxRecDepth 16384

noncomputable section

namespace Cert.Mem

open Idealize.ShloMosaic Cert.Dil Cert.Reference9Ideal Cert.Reference9Ideal.Gen

/-! ## The operations, read at an index -/

/-- The queries. -/
def qs (h : FVec Ideal S16384x4096 .bf16) (w : FVec Ideal S4096x4096 .f32) : FVec Ideal S8x2048x4x256 .f32 :=
  shapeCast S8x2048x4x256 (extractStridedSlice S16384x1024 ![0, 3072]
    (Host.dotGeneral dot_S16384x4096_S4096x4096_S16384x4096_1_0_0_1_n_n none (extf .f32 h bitsLt_bf16_f32) w)
    slices_S16384x4096_S16384x1024_0_3072) shapeCasts_S16384x1024_S8x2048x4x256

theorem qs_at (h : FVec Ideal S16384x4096 .bf16) (w : FVec Ideal S4096x4096 .f32) (b : Fin 8) (t : Fin 2048) (n : Fin 4) (c : Fin 256) :
    qs h w (ix4 b t n c) = ∑ k : Fin 4096, h (ix2 ⟨2048 * b.val + t.val, by omega⟩ k) * w (ix2 k ⟨3072 + 256 * n.val + c.val, by omega⟩) := by
  have e : ∀ (r : Fin 16384) (o : Fin 1024), extractStridedSlice S16384x1024 ![0, 3072]
      (Host.dotGeneral dot_S16384x4096_S4096x4096_S16384x4096_1_0_0_1_n_n none (extf .f32 h bitsLt_bf16_f32) w)
      slices_S16384x4096_S16384x1024_0_3072 (ix2 r o) = ∑ k : Fin 4096, h (ix2 r k) * w (ix2 k ⟨3072 + o.val, by omega⟩) := by
    intro r o
    pointwise!
  refine (shapeCast_apply _ _ _ (ix2 (⟨2048 * b.val + t.val, by omega⟩ : Fin 16384) (⟨256 * n.val + c.val, by omega⟩ : Fin 1024)) ?_).trans ?_
  · rw [Shape.rowMajor_val_two, Shape.rowMajor_val_four]
    show (2048 * b.val + t.val) * 1024 + (256 * n.val + c.val) = ((b.val * 2048 + t.val) * 4 + n.val) * 256 + c.val
    omega
  · rw [e]
    refine Finset.sum_congr rfl fun k _ => congrArg (fun x : EReal => _ * x) (congrArg w (congrArg (ix2 k) (Fin.ext ?_)))
    show 3072 + (256 * n.val + c.val) = 3072 + 256 * n.val + c.val
    omega

/-- The memory's keys and values. -/
def kvs (x : FVec Ideal S2048x2048 .bf16) : FVec Ideal S8x256x2x4x256 .f32 :=
  shapeCast S8x256x2x4x256 (extf .f32 x bitsLt_bf16_f32) shapeCasts_S2048x2048_S8x256x2x4x256

theorem kvs_at (x : FVec Ideal S2048x2048 .bf16) (b : Fin 8) (s : Fin 256) (u : Fin 2) (n : Fin 4) (c : Fin 256) :
    kvs x (ix5 b s u n c) = x (ix2 ⟨256 * b.val + s.val, by omega⟩ ⟨1024 * u.val + 256 * n.val + c.val, by omega⟩) := by
  show shapeCast S8x256x2x4x256 x shapeCasts_S2048x2048_S8x256x2x4x256 _ = _
  refine shapeCast_apply _ _ _ _ ?_
  rw [Shape.rowMajor_val_two, Shape.rowMajor_val_five]
  show (256 * b.val + s.val) * 2048 + (1024 * u.val + 256 * n.val + c.val) = (((b.val * 256 + s.val) * 2 + u.val) * 4 + n.val) * 256 + c.val
  omega

theorem drop_at (x : FVec Ideal S8x256x1x4x256 .f32) (b : Fin 8) (s : Fin 256) (n : Fin 4) (c : Fin 256) :
    shapeCast S8x256x4x256 x shapeCasts_S8x256x1x4x256_S8x256x4x256 (ix4 b s n c) = x (ix5 b s 0 n c) := by
  refine shapeCast_apply _ _ _ _ ?_
  rw [Shape.rowMajor_val_five, Shape.rowMajor_val_four]
  show (((b.val * 256 + s.val) * 1 + 0) * 4 + n.val) * 256 + c.val = ((b.val * 256 + s.val) * 4 + n.val) * 256 + c.val
  omega

def ks (x : FVec Ideal S2048x2048 .bf16) : FVec Ideal S8x256x4x256 .f32 :=
  shapeCast S8x256x4x256 (extractStridedSlice S8x256x1x4x256 ![0, 0, 0, 0, 0] (kvs x) slices_S8x256x2x4x256_S8x256x1x4x256_0_0_0_0_0) shapeCasts_S8x256x1x4x256_S8x256x4x256

def vs (x : FVec Ideal S2048x2048 .bf16) : FVec Ideal S8x256x4x256 .f32 :=
  shapeCast S8x256x4x256 (extractStridedSlice S8x256x1x4x256 ![0, 0, 1, 0, 0] (kvs x) slices_S8x256x2x4x256_S8x256x1x4x256_0_0_1_0_0) shapeCasts_S8x256x1x4x256_S8x256x4x256

theorem ks_at (x : FVec Ideal S2048x2048 .bf16) (b : Fin 8) (s : Fin 256) (n : Fin 4) (c : Fin 256) : ks x (ix4 b s n c) = kvs x (ix5 b s 0 n c) := by
  have e : ∀ y : FVec Ideal S8x256x2x4x256 .f32,
      extractStridedSlice S8x256x1x4x256 ![0, 0, 0, 0, 0] y slices_S8x256x2x4x256_S8x256x1x4x256_0_0_0_0_0 (ix5 b s 0 n c) = y (ix5 b s 0 n c) := by
    intro y
    pointwise!
  unfold ks
  rw [drop_at, e]

theorem vs_at (x : FVec Ideal S2048x2048 .bf16) (b : Fin 8) (s : Fin 256) (n : Fin 4) (c : Fin 256) : vs x (ix4 b s n c) = kvs x (ix5 b s 1 n c) := by
  have e : ∀ y : FVec Ideal S8x256x2x4x256 .f32,
      extractStridedSlice S8x256x1x4x256 ![0, 0, 1, 0, 0] y slices_S8x256x2x4x256_S8x256x1x4x256_0_0_1_0_0 (ix5 b s 0 n c) = y (ix5 b s 1 n c) := by
    intro y
    pointwise!
  unfold vs
  rw [drop_at, e]

/-- The logits, from queries and keys: their products over the word of 16. -/
def lgs (q : FVec Ideal S8x2048x4x256 .f32) (k : FVec Ideal S8x256x4x256 .f32) : FVec Ideal S8x4x2048x256 .f32 :=
  Host.divf (Host.dotGeneral dot_S8x2048x4x256_S8x256x4x256_S8x4x2048x256_3_3_1_1_02_02 none q k)
    (broadcastInDim S8x4x2048x256 ![] bcast_S_S8x4x2048x256 (constant S_ .f32 0x41800000#32))

theorem lgs_at (q : FVec Ideal S8x2048x4x256 .f32) (k : FVec Ideal S8x256x4x256 .f32) (b : Fin 8) (n : Fin 4) (t : Fin 2048) (s : Fin 256) :
    lgs q k (ix4 b n t s) = Ideal.div (∑ c : Fin 256, q (ix4 b t n c) * k (ix4 b s n c)) (Ideal.ofBits .f32 0x41800000#32) := by
  pointwise! [lgs]

/-- The maximum of every row of logits. -/
def tops (l : FVec Ideal S8x4x2048x256 .f32) : FVec Ideal S8x4x2048x1 .f32 :=
  broadcastInDim S8x4x2048x1 ![0, 1, 2] bcast_S8x4x2048_S8x4x2048x1_0_1_2
    (maximumf (broadcastInDim S8x4x2048 ![] bcast_S_S8x4x2048 (constant S_ .f32 0xFF800000#32))
      (Host.reduce FloatOps.maximumf l (constant S_ .f32 0xFF800000#32) reducesTo_S8x4x2048x256_S8x4x2048_d3 h_S_))

theorem tops_at (l : FVec Ideal S8x4x2048x256 .f32) (b : Fin 8) (n : Fin 4) (t : Fin 2048) :
    tops l (ix4 b n t 0) = mx fun s : Fin 256 => l (ix4 b n t s) := by
  have e1 : Host.reduce FloatOps.maximumf l (constant S_ .f32 0xFF800000#32) reducesTo_S8x4x2048x256_S8x4x2048_d3 h_S_ (ix3 b n t) =
      mx fun s : Fin 256 => l (ix4 b n t s) := by
    pointwise! [mx]
  have e2 : ∀ y : FVec Ideal S8x4x2048 .f32, broadcastInDim S8x4x2048x1 ![0, 1, 2] bcast_S8x4x2048_S8x4x2048x1_0_1_2
      (maximumf (broadcastInDim S8x4x2048 ![] bcast_S_S8x4x2048 (constant S_ .f32 0xFF800000#32)) y) (ix4 b n t 0) =
        max (Ideal.ofBits .f32 0xFF800000#32) (y (ix3 b n t)) := by
    intro y
    pointwise!
  have e3 : ∀ y : EReal, max (Ideal.ofBits .f32 0xFF800000#32) y = y := bot_sup_eq
  unfold tops
  rw [e2, e3, e1]

/-- The weights of a row of logits, not yet divided. -/
def wts (l : FVec Ideal S8x4x2048x256 .f32) : FVec Ideal S8x4x2048x256 .f32 :=
  Host.exp (subf l (broadcastInDim S8x4x2048x256 ![0, 1, 2, 3] bcast_S8x4x2048x1_S8x4x2048x256_0_1_2_3 (tops l)))

theorem wts_at (l : FVec Ideal S8x4x2048x256 .f32) (b : Fin 8) (n : Fin 4) (t : Fin 2048) (s : Fin 256) :
    wts l (ix4 b n t s) = wt (fun s' => l (ix4 b n t s')) s := by
  have e : ∀ (x : FVec Ideal S8x4x2048x256 .f32) (y : FVec Ideal S8x4x2048x1 .f32),
      Host.exp (subf x (broadcastInDim S8x4x2048x256 ![0, 1, 2, 3] bcast_S8x4x2048x1_S8x4x2048x256_0_1_2_3 y)) (ix4 b n t s) =
        Ideal.exp (x (ix4 b n t s) - y (ix4 b n t 0)) := by
    intro x y
    pointwise!
  unfold wts wt
  rw [e, tops_at]

/-- The weights of a row, divided by their sum. -/
def sft (p : FVec Ideal S8x4x2048x256 .f32) : FVec Ideal S8x4x2048x256 .f32 :=
  Host.divf p (broadcastInDim S8x4x2048x256 ![0, 1, 2, 3] bcast_S8x4x2048x1_S8x4x2048x256_0_1_2_3
    (broadcastInDim S8x4x2048x1 ![0, 1, 2] bcast_S8x4x2048_S8x4x2048x1_0_1_2
      (Host.reduceAdd p (constant S_ .f32 0x00000000#32) reducesTo_S8x4x2048x256_S8x4x2048_d3 h_S_)))

theorem sft_at (p : FVec Ideal S8x4x2048x256 .f32) (b : Fin 8) (n : Fin 4) (t : Fin 2048) (s : Fin 256) :
    sft p (ix4 b n t s) = Ideal.div (p (ix4 b n t s)) (∑ s', p (ix4 b n t s')) := by
  pointwise! [sft]

theorem flat_at (y : FVec Ideal S8x2048x4x256 .f32) (b : Fin 8) (n : Fin 4) (t : Fin 2048) (c : Fin 256) :
    truncf .bf16 (shapeCast S16384x1024 y shapeCasts_S8x2048x4x256_S16384x1024) bitsLt_bf16_f32
      (ix2 ⟨2048 * b.val + t.val, by omega⟩ ⟨256 * n.val + c.val, by omega⟩) = y (ix4 b t n c) := by
  show shapeCast S16384x1024 y shapeCasts_S8x2048x4x256_S16384x1024 _ = _
  refine shapeCast_apply _ _ _ _ ?_
  rw [Shape.rowMajor_val_two, Shape.rowMajor_val_four]
  show ((b.val * 2048 + t.val) * 4 + n.val) * 256 + c.val = (2048 * b.val + t.val) * 1024 + (256 * n.val + c.val)
  omega

/-- The result from values and divided weights. -/
def mix (v : FVec Ideal S8x256x4x256 .f32) (p : FVec Ideal S8x4x2048x256 .f32) : FVec Ideal S16384x1024 .bf16 :=
  truncf .bf16 (shapeCast S16384x1024 (transpose S8x2048x4x256 [0, 3, 1, 2]
    (Host.dotGeneral dot_S8x256x4x256_S8x4x2048x256_S8x4x256x2048_1_3_3_2_02_01 none v p) transposes_S8x4x256x2048_S8x2048x4x256_0_3_1_2)
    shapeCasts_S8x2048x4x256_S16384x1024) bitsLt_bf16_f32

theorem mix_at (v : FVec Ideal S8x256x4x256 .f32) (p : FVec Ideal S8x4x2048x256 .f32) (b : Fin 8) (n : Fin 4) (t : Fin 2048) (c : Fin 256) :
    mix v p (ix2 ⟨2048 * b.val + t.val, by omega⟩ ⟨256 * n.val + c.val, by omega⟩) = ∑ s : Fin 256, v (ix4 b s n c) * p (ix4 b n t s) := by
  have e : transpose S8x2048x4x256 [0, 3, 1, 2] (Host.dotGeneral dot_S8x256x4x256_S8x4x2048x256_S8x4x256x2048_1_3_3_2_02_01 none v p)
      transposes_S8x4x256x2048_S8x2048x4x256_0_3_1_2 (ix4 b t n c) = ∑ s : Fin 256, v (ix4 b s n c) * p (ix4 b n t s) := by
    pointwise!
  exact (flat_at _ b n t c).trans e

/-! ## The result -/

section

variable (h : FVec Ideal S16384x4096 .bf16) (w : FVec Ideal S4096x4096 .f32) (x : FVec Ideal S2048x2048 .bf16)

/-- Component c of head n of query t of batch row b. -/
def qa (b : Fin 8) (t : Fin 2048) (n : Fin 4) (c : Fin 256) : EReal :=
  ∑ k : Fin 4096, h (ix2 ⟨2048 * b.val + t.val, by omega⟩ k) * w (ix2 k ⟨3072 + 256 * n.val + c.val, by omega⟩)

/-- Key (u = 0) or value (u = 1) s of the memory of batch row b. -/
def kva (b : Fin 8) (s : Fin 256) (u : Fin 2) (n : Fin 4) (c : Fin 256) : EReal :=
  x (ix2 ⟨256 * b.val + s.val, by omega⟩ ⟨1024 * u.val + 256 * n.val + c.val, by omega⟩)

/-- The logits of a query. -/
def lg (b : Fin 8) (n : Fin 4) (t : Fin 2048) (s : Fin 256) : EReal := (∑ c, qa h w b t n c * kva x b s 0 n c) * ((16⁻¹ : ℝ) : EReal)

/-- The reference's result, from its arguments. -/
def res : FVec Ideal S16384x1024 .bf16 := mix (vs x) (sft (wts (lgs (qs h w) (ks x))))

theorem sixteen : Ideal.ofBits .f32 0x41800000#32 = ((16 : ℝ) : EReal) := by
  simp [Ideal.ofBits, Ideal.ieee, -EReal.coe_mul]; norm_num

theorem logit_at (b : Fin 8) (n : Fin 4) (t : Fin 2048) (s : Fin 256) : lgs (qs h w) (ks x) (ix4 b n t s) = lg h w x b n t s := by
  rw [lgs_at, sixteen, Ideal.div_coe (by norm_num), one_div]
  refine congrArg (fun y : EReal => y * _) (Finset.sum_congr rfl fun c _ => ?_)
  rw [qs_at, ks_at, kvs_at]
  rfl

theorem res_at (b : Fin 8) (n : Fin 4) (t : Fin 2048) (c : Fin 256) :
    res h w x (ix2 ⟨2048 * b.val + t.val, by omega⟩ ⟨256 * n.val + c.val, by omega⟩) =
      ∑ s, Ideal.div (wt (lg h w x b n t) s) (den (lg h w x b n t)) * kva x b s 1 n c := by
  have e : (fun s => lgs (qs h w) (ks x) (ix4 b n t s)) = lg h w x b n t := funext fun s => logit_at h w x b n t s
  unfold res
  rw [mix_at]
  refine Finset.sum_congr rfl fun s _ => ?_
  rw [vs_at, kvs_at, sft_at, mul_comm]
  simp only [wts_at, e]
  rfl

end

end Cert.Mem

end
-- ==== Proof.Mem.lean ====
/- The memory attention: a block is one head of 1024 queries, projected in the block, over the 256 keys of the memory. -/
module

public import proofs.«01_k».proof.Defs
public import proofs.«01_k».proof.Proof.Gen.Pre_finite_mem
public import proofs.«01_k».proof.Proof.Gen.Kernel9Ideal.Value
public import proofs.«01_k».proof.Proof.Finite
public import proofs.«01_k».proof.Proof.MemRef
public import Idealize.ShloMosaic.PureOps.Ideal

@[expose] public section

set_option maxRecDepth 16384

noncomputable section

namespace Cert.Mem

open Idealize.ShloMosaic Idealize.ShloMosaic.TcCoe Cert.Dil

/-! ## Finite arguments -/

section

variable (h : FVec Ideal Cert.Reference9Ideal.S16384x4096 .bf16) (w : FVec Ideal Cert.Reference9Ideal.S4096x4096 .f32) (x : FVec Ideal Cert.Reference9Ideal.S2048x2048 .bf16)

/-- The arguments' entries that a logit reads are real numbers. -/
structure Reals : Prop where
  h : ∀ i, ∃ r : ℝ, h i = (r : EReal)
  w : ∀ (i : Fin 4096) (j : Fin 1024), ∃ r : ℝ, w (ix2 i ⟨3072 + j.val, by omega⟩) = (r : EReal)
  k : ∀ (i : Fin 2048) (j : Fin 1024), ∃ r : ℝ, x (ix2 i ⟨j.val, by omega⟩) = (r : EReal)

theorem reals_of_pre (e : Cert.Pre_finite_mem.fn (F := Ideal) h w x = fun _ => 1#1) : Reals h w x := by
  have e := congrFun e (fun a => a.elim0)
  dsimp only [Cert.Pre_finite_mem.fn, andi] at e
  have hand : ∀ a b : BitVec 1, IntOp.andi a b = 1#1 → a = 1#1 ∧ b = 1#1 := by decide
  obtain ⟨e12, e3⟩ := hand _ _ e
  obtain ⟨e1, e2⟩ := hand _ _ e12
  haveI : Subsingleton Cert.Pre_finite_mem.S_.Idx := ⟨fun a b => funext fun x => x.elim0⟩
  refine ⟨fun i => real_of_abs _ (Host.reduce_andi_all _ _ _ _ _ e1 i), fun i j => ?_, fun i j => ?_⟩
  · obtain ⟨r, hr⟩ := real_of_abs _ (Host.reduce_andi_all _ _ _ _ _ e2 (ix2 i j))
    refine ⟨r, ?_⟩
    rw [← hr]
    refine congrArg w (funext fun a => Fin.ext ?_)
    match a with
    | ⟨0, _⟩ => show i.val = 0 + i.val; omega
    | ⟨1, _⟩ => show 3072 + j.val = 3072 + j.val; rfl
  · obtain ⟨r, hr⟩ := real_of_abs _ (Host.reduce_andi_all _ _ _ _ _ e3 (ix2 i j))
    refine ⟨r, ?_⟩
    rw [← hr]
    refine congrArg x (funext fun a => Fin.ext ?_)
    match a with
    | ⟨0, _⟩ => show i.val = 0 + i.val; omega
    | ⟨1, _⟩ => show j.val = 0 + j.val; omega

variable {h w x} (hr : Reals h w x)

include hr

theorem query_real (b : Fin 8) (t : Fin 2048) (n : Fin 4) (c : Fin 256) : ∃ r : ℝ, qa h w b t n c = (r : EReal) := by
  have hterm : ∀ k : Fin 4096, ∃ r : ℝ, h (ix2 ⟨2048 * b.val + t.val, by omega⟩ k) * w (ix2 k ⟨3072 + 256 * n.val + c.val, by omega⟩) = (r : EReal) := fun k => by
    obtain ⟨y, hy⟩ := hr.h (ix2 ⟨2048 * b.val + t.val, by omega⟩ k)
    obtain ⟨z, hz⟩ := hr.w k ⟨256 * n.val + c.val, by omega⟩
    refine ⟨y * z, ?_⟩
    rw [EReal.coe_mul, ← hy, ← hz]
    refine congrArg (fun u : EReal => _ * u) (congrArg w (congrArg (ix2 k) (Fin.ext ?_)))
    show 3072 + 256 * n.val + c.val = 3072 + (256 * n.val + c.val)
    omega
  choose f hf using hterm
  exact ⟨∑ k, f k, by rw [← sum_coe]; exact Finset.sum_congr rfl fun k _ => hf k⟩

theorem logit_real (b : Fin 8) (n : Fin 4) (t : Fin 2048) (s : Fin 256) : ∃ r : ℝ, lg h w x b n t s = (r : EReal) := by
  have hterm : ∀ c : Fin 256, ∃ r : ℝ, qa h w b t n c * kva x b s 0 n c = (r : EReal) := fun c => by
    obtain ⟨y, hy⟩ := query_real hr b t n c
    obtain ⟨z, hz⟩ := hr.k ⟨256 * b.val + s.val, by omega⟩ ⟨256 * n.val + c.val, by omega⟩
    refine ⟨y * z, ?_⟩
    rw [EReal.coe_mul, ← hy, ← hz]
    refine congrArg (fun u : EReal => _ * u) (congrArg x (congrArg (ix2 _) (Fin.ext ?_)))
    show 1024 * 0 + 256 * n.val + c.val = 256 * n.val + c.val
    omega
  choose f hf using hterm
  refine ⟨(∑ c, f c) * 16⁻¹, ?_⟩
  unfold lg
  rw [Finset.sum_congr rfl fun c _ => hf c, sum_coe, EReal.coe_mul]

/-- Dividing the sum once is dividing every weight. -/
theorem row_eq (b : Fin 8) (n : Fin 4) (t : Fin 2048) (c : Fin 256) :
    rowO (lg h w x b n t) (fun s => kva x b s 1 n c) = ∑ s, Ideal.div (wt (lg h w x b n t) s) (den (lg h w x b n t)) * kva x b s 1 n c := by
  refine Logits.rowO_eq ⟨fun s => ?_, 0, ?_⟩ _
  · obtain ⟨r, e⟩ := logit_real hr b n t s
    rw [e]; exact EReal.coe_ne_top r
  · obtain ⟨r, e⟩ := logit_real hr b n t 0
    rw [e]; exact EReal.coe_ne_bot r

end

/-! ## The block -/

open Cert.Kernel9Ideal Cert.Kernel9Ideal.Gen

theorem sixteenth : Ideal.ofBits .f32 0x3D800000#32 = ((16⁻¹ : ℝ) : EReal) := by
  simp [Ideal.ofBits, Ideal.ieee, -EReal.coe_mul]; norm_num

/-- Entry `(s, l)` of a block, from the rows, the head's columns of the weights, its keys and its values. -/
theorem out_at (y : FVec Ideal S1024x4096 .bf16) (w : FVec Ideal S4096x256 .bf16) (k v : FVec Ideal S256x256 .bf16) (s : Fin 1024) (l : Fin 256) :
    out0_4 (F := Ideal) y w k v (ix2 s l) =
      rowO (fun j : Fin 256 => (∑ c : Fin 256, (∑ i : Fin 4096, y (ix2 s i) * w (ix2 i c)) * k (ix2 j c)) * ((16⁻¹ : ℝ) : EReal)) fun j => v (ix2 j l) := by
  have z : (![0, 0] : Fin 2 → Nat) = fun _ => 0 := funext fun a => by fin_cases a <;> rfl
  unfold out0_4
  rw [View.canon_unit_zero z, View.ld_unit_zero (S := S1024x4096) z, View.ld_unit_zero (S := S4096x256) z, View.ld_unit_zero (S := S256x256) z, View.ld_unit_zero (S := S256x256) z, ← sixteenth]
  pointwise! [k0_pay1, rowO, den, wt, mx]

/-- A point's batch row, its half of the sequence, and its head. -/
abbrev seqOf (t : Fin cfg0.N) : Fin 8 := grid0.coords t 0
abbrev halfOf (t : Fin cfg0.N) : Fin 2 := grid0.coords t 1
abbrev headOf (t : Fin cfg0.N) : Fin 4 := grid0.coords t 2

theorem index_query : ∀ t : Fin cfg0.N, (win0_0.index t 0 = 2 * (seqOf t).val + (halfOf t).val ∧ win0_0.index t 1 = 0) ∧
    win0_1.index t 0 = 0 ∧ win0_1.index t 1 = 12 + (headOf t).val :=
  (by decide +kernel : ∀ t : Fin grid0.N, (win0_0.index t 0 = 2 * (grid0.coords t 0).val + (grid0.coords t 1).val ∧ win0_0.index t 1 = 0) ∧
    win0_1.index t 0 = 0 ∧ win0_1.index t 1 = 12 + (grid0.coords t 2).val)
theorem index_memory : ∀ t : Fin cfg0.N, (win0_2.index t 0 = (seqOf t).val ∧ win0_2.index t 1 = (headOf t).val) ∧
    win0_3.index t 0 = (seqOf t).val ∧ win0_3.index t 1 = 4 + (headOf t).val :=
  (by decide +kernel : ∀ t : Fin grid0.N, (win0_2.index t 0 = (grid0.coords t 0).val ∧ win0_2.index t 1 = (grid0.coords t 2).val) ∧
    win0_3.index t 0 = (grid0.coords t 0).val ∧ win0_3.index t 1 = 4 + (grid0.coords t 2).val)
theorem index_result : ∀ t : Fin cfg0.N, win0_4.index t 0 = 2 * (seqOf t).val + (halfOf t).val ∧ win0_4.index t 1 = (headOf t).val :=
  (by decide +kernel : ∀ t : Fin grid0.N, win0_4.index t 0 = 2 * (grid0.coords t 0).val + (grid0.coords t 1).val ∧ win0_4.index t 1 = (grid0.coords t 2).val)

theorem points : ∀ (a : Fin 8) (b : Fin 2) (d : Fin 4), ∃ t : Fin cfg0.N, (seqOf t).val = a.val ∧ (halfOf t).val = b.val ∧ (headOf t).val = d.val :=
  fun a b d => ⟨⟨8 * a.val + 4 * b.val + d.val, by rw [show cfg0.N = 64 from N_0]; omega⟩,
    (by decide +kernel : ∀ (a : Fin 8) (b : Fin 2) (d : Fin 4), (grid0.coords ⟨8 * a.val + 4 * b.val + d.val, by rw [N_0]; omega⟩ 0).val = a.val ∧
      (grid0.coords ⟨8 * a.val + 4 * b.val + d.val, by rw [N_0]; omega⟩ 1).val = b.val ∧
      (grid0.coords ⟨8 * a.val + 4 * b.val + d.val, by rw [N_0]; omega⟩ 2).val = d.val) a b d⟩

variable (m : (ℓ : Loc nD τ sig) → Buf (Elt Ideal) ℓ) (c : Dev nD) (t : Fin cfg0.N)

/-- Query s of a point's block, within its batch row. -/
abbrev posOf (s : Fin 1024) : Fin 2048 := ⟨1024 * (halfOf t).val + s.val, by omega⟩

theorem rows (s : Fin 1024) (k : Fin 4096) :
    iblk m c 0 t (ix2 s k) = m ((c : Thread nD τ).loc main_arg0) (ix2 ⟨2048 * (seqOf t).val + (posOf t s).val, by omega⟩ k) := by
  obtain ⟨⟨e0, e1⟩, -⟩ := index_query t
  refine (congrFun (V_main_arg0 m c) _).trans (congrArg _ (funext fun a => Fin.ext ?_))
  match a with
  | ⟨0, _⟩ => show win0_0.index t (0 : Fin 2) * 1024 + 1 * s.val = 2048 * (seqOf t).val + (1024 * (halfOf t).val + s.val); omega
  | ⟨1, _⟩ => show win0_0.index t (1 : Fin 2) * 4096 + 1 * k.val = k.val; omega

/-- The weights as the host casts them: over the extended reals, the weights. -/
theorem weights : (V m c main_v0 : FVec Ideal S4096x4096 .bf16) =
    truncf (F := Ideal) .bf16 (m ((c : Thread nD τ).loc main_arg1) : FVec Ideal S4096x4096 .f32) bitsLt_bf16_f32 := by
  unfold V
  after_results

theorem columns (k : Fin 4096) (l : Fin 256) :
    iblk m c 1 t (ix2 k l) = m ((c : Thread nD τ).loc main_arg1) (ix2 k ⟨3072 + 256 * (headOf t).val + l.val, by omega⟩) := by
  obtain ⟨-, e0, e1⟩ := index_query t
  refine (congrFun (weights m c) _).trans ?_
  show m ((c : Thread nD τ).loc main_arg1) _ = _
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * l.val = 3072 + 256 * (headOf t).val + l.val; omega

theorem keys (s l : Fin 256) :
    iblk m c 2 t (ix2 s l) = kva (m ((c : Thread nD τ).loc main_arg2)) (seqOf t) s 0 (headOf t) l := by
  obtain ⟨⟨e0, e1⟩, -⟩ := index_memory t
  refine (congrFun (V_main_arg2 m c) _).trans (congrArg _ (funext fun a => Fin.ext ?_))
  match a with
  | ⟨0, _⟩ => show win0_2.index t (0 : Fin 2) * 256 + 1 * s.val = 256 * (seqOf t).val + s.val; omega
  | ⟨1, _⟩ => show win0_2.index t (1 : Fin 2) * 256 + 1 * l.val = 1024 * 0 + 256 * (headOf t).val + l.val; omega

theorem values (s l : Fin 256) :
    iblk m c 3 t (ix2 s l) = kva (m ((c : Thread nD τ).loc main_arg2)) (seqOf t) s 1 (headOf t) l := by
  obtain ⟨-, e0, e1⟩ := index_memory t
  refine (congrFun (V_main_arg2 m c) _).trans (congrArg _ (funext fun a => Fin.ext ?_))
  match a with
  | ⟨0, _⟩ => show win0_3.index t (0 : Fin 2) * 256 + 1 * s.val = 256 * (seqOf t).val + s.val; omega
  | ⟨1, _⟩ => show win0_3.index t (1 : Fin 2) * 256 + 1 * l.val = 1024 * 1 + 256 * (headOf t).val + l.val; omega

/-- Where entry `(s, l)` of the result's block lies. -/
theorem place (s : Fin 1024) (l : Fin 256) {r : Fin 16384} {o : Fin 1024} (hr : r.val = 2048 * (seqOf t).val + (posOf t s).val)
    (ho : o.val = 256 * (headOf t).val + l.val) : ((cfg0.win 4).blk t).view.emb (ix2 s l) = ix2 r o := by
  obtain ⟨e0, e1⟩ := index_result t
  have hr : r.val = 2048 * (seqOf t).val + (1024 * (halfOf t).val + s.val) := hr
  funext a; apply Fin.ext
  match a with
  | ⟨0, _⟩ => show win0_4.index t (0 : Fin 2) * 1024 + 1 * s.val = r.val; omega
  | ⟨1, _⟩ => show win0_4.index t (1 : Fin 2) * 256 + 1 * l.val = o.val; omega

theorem covered (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  obtain ⟨t, e0, e1, e2⟩ := points ⟨(i 0).val / 2048, by omega⟩ ⟨(i 0).val / 1024 % 2, by omega⟩ ⟨(i 1).val / 256, by omega⟩
  refine ⟨t, flush0_4 t, ?_⟩
  have e := place t ⟨(i 0).val % 1024, by omega⟩ ⟨(i 1).val % 256, by omega⟩ (r := i 0) (o := i 1)
    (by show (i 0).val = 2048 * (seqOf t).val + (1024 * (halfOf t).val + (i 0).val % 1024)
        rw [e0, e1]; show (i 0).val = 2048 * ((i 0).val / 2048) + (1024 * ((i 0).val / 1024 % 2) + (i 0).val % 1024); omega)
    (by rw [e2]; show (i 1).val = 256 * ((i 1).val / 256) + (i 1).val % 256; omega)
  have hi : ix2 (i 0) (i 1) = i := by funext a; fin_cases a <;> rfl
  have hm := ((cfg0.win 4).blk t).view.emb_mem_set (ix2 ⟨(i 0).val % 1024, by omega⟩ ⟨(i 1).val % 256, by omega⟩)
  rw [e] at hm
  exact hi ▸ hm

/-- On equal and finite arguments the result array ends at the reference's result. -/
theorem final_res (h : FVec Ideal S16384x4096 .bf16) (w : FVec Ideal S4096x4096 .f32) (x : FVec Ideal S2048x2048 .bf16)
    (e0 : h = m ((c : Thread nD τ).loc main_arg0)) (e1 : w = m ((c : Thread nD τ).loc main_arg1))
    (e2 : x = m ((c : Thread nD τ).loc main_arg2)) (hr : Reals h w x) :
    (dats m 0 c).arrAt 4 cfg0.N = res h w x := by
  refine (dats m 0 c).arrAt_eq_of_cover 4 (res h w x) (fun t _ => ?_) covered
  rw [Value.flushed4]
  funext j
  obtain ⟨s, l, rfl⟩ : ∃ (s : Fin 1024) (l : Fin 256), j = ix2 s l := ⟨j 0, j 1, by funext a; fin_cases a <;> rfl⟩
  refine (out_at (iblk m c 0 t) (iblk m c 1 t) (iblk m c 2 t) (iblk m c 3 t) s l).trans ?_
  show _ = res h w x (((cfg0.win 4).blk t).view.emb (ix2 s l))
  rw [place t s l (r := ⟨2048 * (seqOf t).val + (posOf t s).val, by omega⟩) (o := ⟨256 * (headOf t).val + l.val, by omega⟩) rfl rfl]
  refine Eq.trans ?_ ((row_eq hr (seqOf t) (headOf t) (posOf t s) l).trans (res_at h w x (seqOf t) (headOf t) (posOf t s) l).symm)
  rw [e0, e1, e2]
  refine congrArg₂ rowO (funext fun j => ?_) (funext fun j => values m c t j l)
  exact congrArg (fun y : EReal => y * _) (Finset.sum_congr rfl fun i _ => congrArg₂ _
    (Finset.sum_congr rfl fun k _ => congrArg₂ _ (rows m c t s k) (columns m c t k i)) (keys m c t j i))

end Cert.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Result
public import proofs.«01_k».proof.Proof.Up
public import proofs.«01_k».proof.Proof.Down
public import proofs.«01_k».proof.Proof.Kv
public import proofs.«01_k».proof.Proof.AOut
public import proofs.«01_k».proof.Proof.Norm
public import proofs.«01_k».proof.Proof.BOut
public import proofs.«01_k».proof.Proof.Query
public import proofs.«01_k».proof.Proof.Mem
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite_mem
public import Idealize.ShloMosaic.Lib.Quiescent
public import Idealize.ShloMosaic.Adequacy
public import Idealize.ShloMosaic.Init

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "scale" .f32 0x3DB504F3#32 (((Real.sqrt 128)⁻¹ : ℝ) : EReal) rfl⟩

/-- The kernel's result array ends at the reference's result. -/
theorem algebraic : Cert.algebraic_KernelIdeal_ReferenceIdeal_pre_finite := by
  intro m ρ m' ρ' hpre hagree
  refine ⟨fun c => Cert.Dil.res (Idealize.ShloMosaic.StableHlo.launchContents m' c), ?_, Cert.ReferenceIdeal.Value.run (F := Ideal) m' ρ'⟩
  refine (θ_run Cert.KernelIdeal.defs _ _).mono (fun _ h c => ⟨(h c).1.trans ?_, (h c).2⟩) (Cert.KernelIdeal.Value.run_blocks (F := Ideal) m ρ)
  exact Cert.Dil.final_res m c (Cert.Dil.real3_of_pre _ _ _ (hpre c)) (Idealize.ShloMosaic.StableHlo.launchContents m' c)
    (hagree c).1 (hagree c).2.1 (hagree c).2.2

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic_up : Cert.algebraic_Kernel2Ideal_Reference2Ideal := by
  intro m ρ m' ρ' _ hagree
  refine ⟨fun c => Cert.Up.res (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1)), ?_, Cert.Reference2Ideal.Value.run (F := Ideal) m' ρ'⟩
  refine (θ_run Cert.Kernel2Ideal.defs _ _).mono (fun _ h c => ⟨(h c).1.trans ?_, (h c).2⟩) (Cert.Kernel2Ideal.Value.run_blocks (F := Ideal) m ρ)
  exact Cert.Up.final_res m c _ _ (hagree c).1 (hagree c).2

theorem algebraic_down : Cert.algebraic_Kernel3Ideal_Reference3Ideal := by
  intro m ρ m' ρ' _ hagree
  refine ⟨fun c => Cert.Down.res (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2)), ?_, Cert.Reference3Ideal.Value.run (F := Ideal) m' ρ'⟩
  refine (θ_run Cert.Kernel3Ideal.defs _ _).mono (fun _ h c => ⟨(h c).1.trans ?_, (h c).2⟩) (Cert.Kernel3Ideal.Value.run_blocks (F := Ideal) m ρ)
  exact Cert.Down.final_res m c _ _ _ (hagree c).1 (hagree c).2.1 (hagree c).2.2

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic_kv : Cert.algebraic_Kernel4Ideal_Reference4Ideal := by
  intro m ρ m' ρ' _ hagree
  refine ⟨fun c => Cert.Kv.res (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1)),
    ?_, Cert.Reference4Ideal.Value.run (F := Ideal) m' ρ'⟩
  refine (θ_run Cert.Kernel4Ideal.defs _ _).mono (fun _ h c => ⟨(h c).1.trans ?_, (h c).2⟩) (Cert.Kernel4Ideal.Value.run_blocks (F := Ideal) m ρ)
  exact Cert.Kv.final_res m c _ _ (hagree c).1 (hagree c).2

theorem algebraic_out : Cert.algebraic_Kernel5Ideal_Reference5Ideal := by
  intro m ρ m' ρ' _ hagree
  refine ⟨fun c => Cert.AOut.res (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))
    (m' ((c.tc : Thread Cert.Reference5Ideal.nD Cert.Reference5Ideal.τ).loc Cert.Reference5Ideal.main_arg3)),
    ?_, Cert.Reference5Ideal.Value.run (F := Ideal) m' ρ'⟩
  refine (θ_run Cert.Kernel5Ideal.defs _ _).mono (fun _ h c => ⟨(h c).1.trans ?_, (h c).2⟩) (Cert.Kernel5Ideal.Value.run_blocks (F := Ideal) m ρ)
  exact Cert.AOut.final_res m c _ _ _ _ (hagree c).1 (hagree c).2.1 (hagree c).2.2.1 (hagree c).2.2.2

theorem frame_r6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame_r9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic_norm : Cert.algebraic_Kernel6Ideal_Reference6Ideal := by
  intro m ρ m' ρ' _ hagree
  refine ⟨fun c => Cert.Norm.res (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1)),
    ?_, Cert.Reference6Ideal.Value.run (F := Ideal) m' ρ'⟩
  refine (θ_run Cert.Kernel6Ideal.defs _ _).mono (fun _ h c => ⟨(h c).1.trans ?_, (h c).2⟩) (Cert.Kernel6Ideal.Value.run_blocks (F := Ideal) m ρ)
  exact Cert.Norm.final_res m c _ _ (hagree c).1 (hagree c).2

theorem algebraic_bout : Cert.algebraic_Kernel7Ideal_Reference7Ideal := by
  intro m ρ m' ρ' _ hagree
  refine ⟨fun c => Cert.BOut.res (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2))
    (m' ((c.tc : Thread Cert.Reference7Ideal.nD Cert.Reference7Ideal.τ).loc Cert.Reference7Ideal.main_arg3)),
    ?_, Cert.Reference7Ideal.Value.run (F := Ideal) m' ρ'⟩
  refine (θ_run Cert.Kernel7Ideal.defs _ _).mono (fun _ h c => ⟨(h c).1.trans ?_, (h c).2⟩) (Cert.Kernel7Ideal.Value.run_blocks (F := Ideal) m ρ)
  exact Cert.BOut.final_res m c _ _ _ _ (hagree c).1 (hagree c).2.1 (hagree c).2.2.1 (hagree c).2.2.2

theorem algebraic_query : Cert.algebraic_Kernel8Ideal_Reference8Ideal := by
  intro m ρ m' ρ' _ hagree
  refine ⟨fun c => Cert.Query.res (m' ((c.tc : Thread Cert.Reference8Ideal.nD Cert.Reference8Ideal.τ).loc Cert.Reference8Ideal.main_arg0))
    (m' ((c.tc : Thread Cert.Reference8Ideal.nD Cert.Reference8Ideal.τ).loc Cert.Reference8Ideal.main_arg1)),
    ?_, Cert.Reference8Ideal.Value.run (F := Ideal) m' ρ'⟩
  refine (θ_run Cert.Kernel8Ideal.defs _ _).mono (fun _ h c => ⟨(h c).1.trans ?_, (h c).2⟩) (Cert.Kernel8Ideal.Value.run_blocks (F := Ideal) m ρ)
  exact Cert.Query.final_res m c _ _ (hagree c).1 (hagree c).2

theorem algebraic_mem : Cert.algebraic_Kernel9Ideal_Reference9Ideal_pre_finite_mem := by
  intro m ρ m' ρ' hpre hagree
  refine ⟨fun c => Cert.Reference9Ideal.Value.res_main_v27 (F := Ideal) m' c, ?_, Cert.Reference9Ideal.Value.run (F := Ideal) m' ρ'⟩
  refine (θ_run Cert.Kernel9Ideal.defs _ _).mono (fun _ h c => ⟨(h c).1.trans ?_, (h c).2⟩) (Cert.Kernel9Ideal.Value.run_blocks (F := Ideal) m ρ)
  refine (Cert.Mem.final_res m c _ _ _ (hagree c).1 (hagree c).2.1 (hagree c).2.2 ?_).trans ?_
  · rw [(hagree c).1, (hagree c).2.1, (hagree c).2.2]
    exact Cert.Mem.reals_of_pre _ _ _ (hpre c)
  · unfold Cert.Reference9Ideal.Value.res_main_v27
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Pre_finite.Gen.facts, Cert.Pre_finite_mem.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ, frame_r8,
    fun m ρ _ => Cert.Kernel9.Gen.frame m ρ, fun m ρ _ => Cert.Kernel9Ideal.Gen.frame m ρ, fun m ρ _ => Cert.Kernel9Ideal.Gen.frame m ρ,
    frame_r9, fun m ρ _ => frame_r9 m ρ trivial,
    preserves, algebraic, trivial, algebraic_up, trivial, algebraic_down, trivial, algebraic_kv, trivial, algebraic_out,
    trivial, algebraic_norm, trivial, algebraic_bout, trivial, algebraic_query, trivial, algebraic_mem⟩

end Cert.Proof

end
